-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x32x128 : Shape := ⟨3, ![4096, 32, 128]⟩
abbrev S128x128 : Shape := ⟨2, ![128, 128]⟩
abbrev S128 : Shape := ⟨1, ![128]⟩
abbrev S_ : Shape := ⟨0, ![]⟩

class Facts : Prop where
  bcast_S_S4096x32x128 : S_.BroadcastsInDim S4096x32x128 (![] : Fin 0 → Fin S4096x32x128.rank)
  reducesTo_S4096x32x128_S_d0_1_2 : S4096x32x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4096x32x128 .f32) (main_arg1 : FVec F S128x128 .f32) (main_arg2 : FVec F S128 .f32) : IVec S_ 1 :=
  let main_v0 : FVec F S4096x32x128 .f32 := Host.absf main_arg0
  let main_cst : FVec F S_ .f32 := constant S_ .f32 0x7F800000#32
  let main_v1 : FVec F S4096x32x128 .f32 := broadcastInDim S4096x32x128 ![] bcast_S_S4096x32x128 main_cst
  let main_v2 : IVec S4096x32x128 1 := cmpf .olt main_v0 main_v1
  let main_c : IVec S_ 1 := constantI S_ 1 1#1
  let main_v3 : IVec S_ 1 := (fun x v => Host.reduce IntOp.andi x v reducesTo_S4096x32x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S4096x32x128 : Shape := ⟨3, ![4096, 32, 128]⟩
abbrev S128x128 : Shape := ⟨2, ![128, 128]⟩
abbrev S128 : Shape := ⟨1, ![128]⟩
abbrev S1x128 : Shape := ⟨2, ![1, 128]⟩
abbrev S131072x128 : Shape := ⟨2, ![131072, 128]⟩
abbrev S1024x128 : Shape := ⟨2, ![1024, 128]⟩
abbrev S256x128 : Shape := ⟨2, ![256, 128]⟩
abbrev S32x128 : Shape := ⟨2, ![32, 128]⟩
abbrev S_ : Shape := ⟨0, ![]⟩
abbrev S1x16 : Shape := ⟨2, ![1, 16]⟩
abbrev S16 : Shape := ⟨1, ![16]⟩
abbrev S4096x128 : Shape := ⟨2, ![4096, 128]⟩
abbrev S512x32x128 : Shape := ⟨3, ![512, 32, 128]⟩
abbrev S512x128 : Shape := ⟨2, ![512, 128]⟩

abbrev nBuf : Table → Nat
  | .hbm => 8
  | .local .tc .vmem => 10
  | .local .scVector .vmem => 4
  | _ => 0

abbrev bufTy : (tb : Table) → Fin (nBuf tb) → BufTy
  | .hbm, ⟨0, _⟩ => ⟨S4096x32x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S131072x128, .f32⟩
  | .hbm, ⟨5, _⟩ => ⟨S1024x128, .f32⟩
  | .hbm, ⟨6, _⟩ => ⟨S4096x128, .f32⟩
  | .hbm, ⟨7, _⟩ => ⟨S4096x128, .f32⟩
  | .local .tc .vmem, ⟨0, _⟩ => ⟨S512x32x128, .f32⟩
  | .local .tc .vmem, ⟨1, _⟩ => ⟨S512x32x128, .f32⟩
  | .local .tc .vmem, ⟨2, _⟩ => ⟨S128x128, .f32⟩
  | .local .tc .vmem, ⟨3, _⟩ => ⟨S1x128, .f32⟩
  | .local .tc .vmem, ⟨4, _⟩ => ⟨S512x128, .f32⟩
  | .local .tc .vmem, ⟨5, _⟩ => ⟨S512x128, .f32⟩
  | .local .tc .vmem, ⟨6, _⟩ => ⟨S1024x128, .f32⟩
  | .local .tc .vmem, ⟨7, _⟩ => ⟨S128x128, .f32⟩
  | .local .tc .vmem, ⟨8, _⟩ => ⟨S1x128, .f32⟩
  | .local .tc .vmem, ⟨9, _⟩ => ⟨S1024x128, .f32⟩
  | .local .scVector .vmem, ⟨0, _⟩ => ⟨S256x128, .f32⟩
  | .local .scVector .vmem, ⟨1, _⟩ => ⟨S256x128, .f32⟩
  | .local .scVector .vmem, ⟨2, _⟩ => ⟨S256x128, .f32⟩
  | .local .scVector .vmem, ⟨3, _⟩ => ⟨S32x128, .f32⟩
  | _, _ => ⟨S4096x32x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 4, rfl⟩
abbrev main_v2_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem2_0 : DmaSem sig := 12
abbrev cc2_sem3_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  let c32_i32_0 : BitVec 32 := 32#32
  let v4 : BitVec 32 := Scalar.muli v3 c32_i32_0
  let c0_i32_1 : BitVec 32 := 0#32
  ![v4.toNat, 0]
@[reducible] def k0_t1_loop : Scf.Loop 32 :=
  let c0_i32_6 : BitVec 32 := 0#32
  let c2_i32_7 : BitVec 32 := 2#32
  let v11 : BitVec 32 := Scalar.addi c0_i32_6 c2_i32_7
  let c1_i32 : BitVec 32 := 1#32
  ⟨c0_i32_6, v11, c1_i32⟩
def k0_off2 (i : grid0.Coords) (k0_t1 : Fin k0_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let v14 : BitVec 32 := Scalar.addi v13 c0_i32_11
  let c8_i32_12 : BitVec 32 := 8#32
  let v15 : BitVec 32 := Scalar.muli v14 c8_i32_12
  let v16 : BitVec 32 := Scalar.addi v2 v15
  let c32_i32_13 : BitVec 32 := 32#32
  let v17 : BitVec 32 := Scalar.muli v16 c32_i32_13
  let c0_i32_14 : BitVec 32 := 0#32
  ![v17.toNat, 0]
@[reducible] def k0_t2_loop : Scf.Loop 32 :=
  let c0_i32_18 : BitVec 32 := 0#32
  let c8_i32_19 : BitVec 32 := 8#32
  let v21 : BitVec 32 := Scalar.addi c0_i32_18 c8_i32_19
  let c1_i32_20 : BitVec 32 := 1#32
  ⟨c0_i32_18, v21, c1_i32_20⟩
def k0_off3 (k0_t2 : Fin k0_t2_loop.trips) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v43 : Index := Scalar.indexCast v40
  let c0 : Index := 0#32
  ![v43.toNat, 0]
def k0_off4 (k0_t2 : Fin k0_t2_loop.trips) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v46 : Index := Scalar.indexCast v40
  let c16 : Index := 16#32
  ![v46.toNat, 16]
def k0_off5 (k0_t2 : Fin k0_t2_loop.trips) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v49 : Index := Scalar.indexCast v40
  let c32 : Index := 32#32
  ![v49.toNat, 32]
def k0_off6 (k0_t2 : Fin k0_t2_loop.trips) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v52 : Index := Scalar.indexCast v40
  let c48 : Index := 48#32
  ![v52.toNat, 48]
def k0_off7 (k0_t2 : Fin k0_t2_loop.trips) (c1_i32_42 : BitVec 32) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v55 : BitVec 32 := Scalar.addi v40 c1_i32_42
  let v56 : Index := Scalar.indexCast v55
  let c0_43 : Index := 0#32
  ![v56.toNat, 0]
def k0_off8 (k0_t2 : Fin k0_t2_loop.trips) (c1_i32_44 : BitVec 32) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v60 : BitVec 32 := Scalar.addi v40 c1_i32_44
  let v61 : Index := Scalar.indexCast v60
  let c16_45 : Index := 16#32
  ![v61.toNat, 16]
def k0_off9 (k0_t2 : Fin k0_t2_loop.trips) (c1_i32_46 : BitVec 32) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v65 : BitVec 32 := Scalar.addi v40 c1_i32_46
  let v66 : Index := Scalar.indexCast v65
  let c32_47 : Index := 32#32
  ![v66.toNat, 32]
def k0_off10 (k0_t2 : Fin k0_t2_loop.trips) (c1_i32_48 : BitVec 32) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v70 : BitVec 32 := Scalar.addi v40 c1_i32_48
  let v71 : Index := Scalar.indexCast v70
  let c48_49 : Index := 48#32
  ![v71.toNat, 48]
def k0_off11 (k0_t1 : Fin k0_t1_loop.trips) (k0_t2 : Fin k0_t2_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_16 : BitVec 32 := 0#32
  let v20 : BitVec 32 := Scalar.addi v13 c0_i32_16
  let c8_i32_41 : BitVec 32 := 8#32
  let v41 : BitVec 32 := Scalar.muli v20 c8_i32_41
  let c0_i32_18 : BitVec 32 := 0#32
  let c1_i32_20 : BitVec 32 := 1#32
  let arg12 : BitVec 32 := Scf.iv c0_i32_18 c1_i32_20 k0_t2
  let v42 : BitVec 32 := Scalar.addi v41 arg12
  let v675 : Index := Scalar.indexCast v42
  let c0_263 : Index := 0#32
  ![v675.toNat, 0]
def k0_off12 (k0_t1 : Fin k0_t1_loop.trips) (k0_t2 : Fin k0_t2_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_16 : BitVec 32 := 0#32
  let v20 : BitVec 32 := Scalar.addi v13 c0_i32_16
  let c8_i32_41 : BitVec 32 := 8#32
  let v41 : BitVec 32 := Scalar.muli v20 c8_i32_41
  let c0_i32_18 : BitVec 32 := 0#32
  let c1_i32_20 : BitVec 32 := 1#32
  let arg12 : BitVec 32 := Scf.iv c0_i32_18 c1_i32_20 k0_t2
  let v42 : BitVec 32 := Scalar.addi v41 arg12
  let v679 : Index := Scalar.indexCast v42
  let c16_264 : Index := 16#32
  ![v679.toNat, 16]
def k0_off13 (k0_t1 : Fin k0_t1_loop.trips) (k0_t2 : Fin k0_t2_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_16 : BitVec 32 := 0#32
  let v20 : BitVec 32 := Scalar.addi v13 c0_i32_16
  let c8_i32_41 : BitVec 32 := 8#32
  let v41 : BitVec 32 := Scalar.muli v20 c8_i32_41
  let c0_i32_18 : BitVec 32 := 0#32
  let c1_i32_20 : BitVec 32 := 1#32
  let arg12 : BitVec 32 := Scf.iv c0_i32_18 c1_i32_20 k0_t2
  let v42 : BitVec 32 := Scalar.addi v41 arg12
  let v683 : Index := Scalar.indexCast v42
  let c32_265 : Index := 32#32
  ![v683.toNat, 32]
def k0_off14 (k0_t1 : Fin k0_t1_loop.trips) (k0_t2 : Fin k0_t2_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_16 : BitVec 32 := 0#32
  let v20 : BitVec 32 := Scalar.addi v13 c0_i32_16
  let c8_i32_41 : BitVec 32 := 8#32
  let v41 : BitVec 32 := Scalar.muli v20 c8_i32_41
  let c0_i32_18 : BitVec 32 := 0#32
  let c1_i32_20 : BitVec 32 := 1#32
  let arg12 : BitVec 32 := Scf.iv c0_i32_18 c1_i32_20 k0_t2
  let v42 : BitVec 32 := Scalar.addi v41 arg12
  let v687 : Index := Scalar.indexCast v42
  let c48_266 : Index := 48#32
  ![v687.toNat, 48]
def k0_off15 (k0_t2 : Fin k0_t2_loop.trips) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v691 : Index := Scalar.indexCast v40
  let c64 : Index := 64#32
  ![v691.toNat, 64]
def k0_off16 (k0_t2 : Fin k0_t2_loop.trips) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v694 : Index := Scalar.indexCast v40
  let c80 : Index := 80#32
  ![v694.toNat, 80]
def k0_off17 (k0_t2 : Fin k0_t2_loop.trips) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v697 : Index := Scalar.indexCast v40
  let c96 : Index := 96#32
  ![v697.toNat, 96]
def k0_off18 (k0_t2 : Fin k0_t2_loop.trips) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v700 : Index := Scalar.indexCast v40
  let c112 : Index := 112#32
  ![v700.toNat, 112]
def k0_off19 (k0_t2 : Fin k0_t2_loop.trips) (c1_i32_267 : BitVec 32) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v703 : BitVec 32 := Scalar.addi v40 c1_i32_267
  let v704 : Index := Scalar.indexCast v703
  let c64_268 : Index := 64#32
  ![v704.toNat, 64]
def k0_off20 (k0_t2 : Fin k0_t2_loop.trips) (c1_i32_269 : BitVec 32) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v708 : BitVec 32 := Scalar.addi v40 c1_i32_269
  let v709 : Index := Scalar.indexCast v708
  let c80_270 : Index := 80#32
  ![v709.toNat, 80]
def k0_off21 (k0_t2 : Fin k0_t2_loop.trips) (c1_i32_271 : BitVec 32) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v713 : BitVec 32 := Scalar.addi v40 c1_i32_271
  let v714 : Index := Scalar.indexCast v713
  let c96_272 : Index := 96#32
  ![v714.toNat, 96]
def k0_off22 (k0_t2 : Fin k0_t2_loop.trips) (c1_i32_273 : BitVec 32) : Fin 2 → Nat :=
  let c0_i32_18 : BitVec 32 := 0#32
  let c1_i32_20 : BitVec 32 := 1#32
  let arg12 : BitVec 32 := Scf.iv c0_i32_18 c1_i32_20 k0_t2
  let c32_i32_40 : BitVec 32 := 32#32
  let v40 : BitVec 32 := Scalar.muli arg12 c32_i32_40
  let v718 : BitVec 32 := Scalar.addi v40 c1_i32_273
  let v719 : Index := Scalar.indexCast v718
  let c112_274 : Index := 112#32
  ![v719.toNat, 112]
def k0_off23 (k0_t1 : Fin k0_t1_loop.trips) (k0_t2 : Fin k0_t2_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_16 : BitVec 32 := 0#32
  let v20 : BitVec 32 := Scalar.addi v13 c0_i32_16
  let c8_i32_41 : BitVec 32 := 8#32
  let v41 : BitVec 32 := Scalar.muli v20 c8_i32_41
  let c0_i32_18 : BitVec 32 := 0#32
  let c1_i32_20 : BitVec 32 := 1#32
  let arg12 : BitVec 32 := Scf.iv c0_i32_18 c1_i32_20 k0_t2
  let v42 : BitVec 32 := Scalar.addi v41 arg12
  let v1323 : Index := Scalar.indexCast v42
  let c64_515 : Index := 64#32
  ![v1323.toNat, 64]
def k0_off24 (k0_t1 : Fin k0_t1_loop.trips) (k0_t2 : Fin k0_t2_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_16 : BitVec 32 := 0#32
  let v20 : BitVec 32 := Scalar.addi v13 c0_i32_16
  let c8_i32_41 : BitVec 32 := 8#32
  let v41 : BitVec 32 := Scalar.muli v20 c8_i32_41
  let c0_i32_18 : BitVec 32 := 0#32
  let c1_i32_20 : BitVec 32 := 1#32
  let arg12 : BitVec 32 := Scf.iv c0_i32_18 c1_i32_20 k0_t2
  let v42 : BitVec 32 := Scalar.addi v41 arg12
  let v1327 : Index := Scalar.indexCast v42
  let c80_516 : Index := 80#32
  ![v1327.toNat, 80]
def k0_off25 (k0_t1 : Fin k0_t1_loop.trips) (k0_t2 : Fin k0_t2_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_16 : BitVec 32 := 0#32
  let v20 : BitVec 32 := Scalar.addi v13 c0_i32_16
  let c8_i32_41 : BitVec 32 := 8#32
  let v41 : BitVec 32 := Scalar.muli v20 c8_i32_41
  let c0_i32_18 : BitVec 32 := 0#32
  let c1_i32_20 : BitVec 32 := 1#32
  let arg12 : BitVec 32 := Scf.iv c0_i32_18 c1_i32_20 k0_t2
  let v42 : BitVec 32 := Scalar.addi v41 arg12
  let v1331 : Index := Scalar.indexCast v42
  let c96_517 : Index := 96#32
  ![v1331.toNat, 96]
def k0_off26 (k0_t1 : Fin k0_t1_loop.trips) (k0_t2 : Fin k0_t2_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_16 : BitVec 32 := 0#32
  let v20 : BitVec 32 := Scalar.addi v13 c0_i32_16
  let c8_i32_41 : BitVec 32 := 8#32
  let v41 : BitVec 32 := Scalar.muli v20 c8_i32_41
  let c0_i32_18 : BitVec 32 := 0#32
  let c1_i32_20 : BitVec 32 := 1#32
  let arg12 : BitVec 32 := Scf.iv c0_i32_18 c1_i32_20 k0_t2
  let v42 : BitVec 32 := Scalar.addi v41 arg12
  let v1335 : Index := Scalar.indexCast v42
  let c112_518 : Index := 112#32
  ![v1335.toNat, 112]
def k0_cond1 (k0_t1 : Fin k0_t1_loop.trips) : BitVec 1 :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_22 : BitVec 32 := 0#32
  let v22 : BitVec 32 := Scalar.addi v13 c0_i32_22
  let c2_i32_23 : BitVec 32 := 2#32
  let v23 : BitVec 32 := Scalar.addi v22 c2_i32_23
  let c4_i32 : BitVec 32 := 4#32
  let v24 : BitVec 1 := Scalar.cmpi .slt v23 c4_i32
  let v25 : BitVec 32 := Scalar.extui v24
  let c0_i32_24 : BitVec 32 := 0#32
  let v26 : BitVec 1 := Scalar.cmpi .ne v25 c0_i32_24
  v26

def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c0_i32_40 : BitVec 32 := 0#32
  let v40 : BitVec 32 := Scalar.addi v13 c0_i32_40
  let c2_i32_41 : BitVec 32 := 2#32
  let v41 : BitVec 32 := Scalar.addi v40 c2_i32_41
  let c8_i32_42 : BitVec 32 := 8#32
  let v42 : BitVec 32 := Scalar.muli v41 c8_i32_42
  let v43 : BitVec 32 := Scalar.addi v2 v42
  let c32_i32_43 : BitVec 32 := 32#32
  let v44 : BitVec 32 := Scalar.muli v43 c32_i32_43
  let c0_i32_44 : BitVec 32 := 0#32
  ![v44.toNat, 0]
@[reducible] def k0_t3_loop : Scf.Loop 32 :=
  let c0_i32_32 : BitVec 32 := 0#32
  let c8_i32_33 : BitVec 32 := 8#32
  let v34 : BitVec 32 := Scalar.addi c0_i32_32 c8_i32_33
  let c1_i32_34 : BitVec 32 := 1#32
  ⟨c0_i32_32, v34, c1_i32_34⟩
def k0_off28 (k0_t3 : Fin k0_t3_loop.trips) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v43 : Index := Scalar.indexCast v40
  let c0 : Index := 0#32
  ![v43.toNat, 0]
def k0_off29 (k0_t3 : Fin k0_t3_loop.trips) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v46 : Index := Scalar.indexCast v40
  let c16 : Index := 16#32
  ![v46.toNat, 16]
def k0_off30 (k0_t3 : Fin k0_t3_loop.trips) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v49 : Index := Scalar.indexCast v40
  let c32 : Index := 32#32
  ![v49.toNat, 32]
def k0_off31 (k0_t3 : Fin k0_t3_loop.trips) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v52 : Index := Scalar.indexCast v40
  let c48 : Index := 48#32
  ![v52.toNat, 48]
def k0_off32 (k0_t3 : Fin k0_t3_loop.trips) (c1_i32_42 : BitVec 32) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v55 : BitVec 32 := Scalar.addi v40 c1_i32_42
  let v56 : Index := Scalar.indexCast v55
  let c0_43 : Index := 0#32
  ![v56.toNat, 0]
def k0_off33 (k0_t3 : Fin k0_t3_loop.trips) (c1_i32_44 : BitVec 32) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v60 : BitVec 32 := Scalar.addi v40 c1_i32_44
  let v61 : Index := Scalar.indexCast v60
  let c16_45 : Index := 16#32
  ![v61.toNat, 16]
def k0_off34 (k0_t3 : Fin k0_t3_loop.trips) (c1_i32_46 : BitVec 32) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v65 : BitVec 32 := Scalar.addi v40 c1_i32_46
  let v66 : Index := Scalar.indexCast v65
  let c32_47 : Index := 32#32
  ![v66.toNat, 32]
def k0_off35 (k0_t3 : Fin k0_t3_loop.trips) (c1_i32_48 : BitVec 32) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v70 : BitVec 32 := Scalar.addi v40 c1_i32_48
  let v71 : Index := Scalar.indexCast v70
  let c48_49 : Index := 48#32
  ![v71.toNat, 48]
def k0_off36 (k0_t1 : Fin k0_t1_loop.trips) (k0_t3 : Fin k0_t3_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_30 : BitVec 32 := 1#32
  let v33 : BitVec 32 := Scalar.addi v13 c1_i32_30
  let c8_i32_41 : BitVec 32 := 8#32
  let v41 : BitVec 32 := Scalar.muli v33 c8_i32_41
  let c0_i32_32 : BitVec 32 := 0#32
  let c1_i32_34 : BitVec 32 := 1#32
  let arg12 : BitVec 32 := Scf.iv c0_i32_32 c1_i32_34 k0_t3
  let v42 : BitVec 32 := Scalar.addi v41 arg12
  let v675 : Index := Scalar.indexCast v42
  let c0_263 : Index := 0#32
  ![v675.toNat, 0]
def k0_off37 (k0_t1 : Fin k0_t1_loop.trips) (k0_t3 : Fin k0_t3_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_30 : BitVec 32 := 1#32
  let v33 : BitVec 32 := Scalar.addi v13 c1_i32_30
  let c8_i32_41 : BitVec 32 := 8#32
  let v41 : BitVec 32 := Scalar.muli v33 c8_i32_41
  let c0_i32_32 : BitVec 32 := 0#32
  let c1_i32_34 : BitVec 32 := 1#32
  let arg12 : BitVec 32 := Scf.iv c0_i32_32 c1_i32_34 k0_t3
  let v42 : BitVec 32 := Scalar.addi v41 arg12
  let v679 : Index := Scalar.indexCast v42
  let c16_264 : Index := 16#32
  ![v679.toNat, 16]
def k0_off38 (k0_t1 : Fin k0_t1_loop.trips) (k0_t3 : Fin k0_t3_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_30 : BitVec 32 := 1#32
  let v33 : BitVec 32 := Scalar.addi v13 c1_i32_30
  let c8_i32_41 : BitVec 32 := 8#32
  let v41 : BitVec 32 := Scalar.muli v33 c8_i32_41
  let c0_i32_32 : BitVec 32 := 0#32
  let c1_i32_34 : BitVec 32 := 1#32
  let arg12 : BitVec 32 := Scf.iv c0_i32_32 c1_i32_34 k0_t3
  let v42 : BitVec 32 := Scalar.addi v41 arg12
  let v683 : Index := Scalar.indexCast v42
  let c32_265 : Index := 32#32
  ![v683.toNat, 32]
def k0_off39 (k0_t1 : Fin k0_t1_loop.trips) (k0_t3 : Fin k0_t3_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_30 : BitVec 32 := 1#32
  let v33 : BitVec 32 := Scalar.addi v13 c1_i32_30
  let c8_i32_41 : BitVec 32 := 8#32
  let v41 : BitVec 32 := Scalar.muli v33 c8_i32_41
  let c0_i32_32 : BitVec 32 := 0#32
  let c1_i32_34 : BitVec 32 := 1#32
  let arg12 : BitVec 32 := Scf.iv c0_i32_32 c1_i32_34 k0_t3
  let v42 : BitVec 32 := Scalar.addi v41 arg12
  let v687 : Index := Scalar.indexCast v42
  let c48_266 : Index := 48#32
  ![v687.toNat, 48]
def k0_off40 (k0_t3 : Fin k0_t3_loop.trips) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v691 : Index := Scalar.indexCast v40
  let c64 : Index := 64#32
  ![v691.toNat, 64]
def k0_off41 (k0_t3 : Fin k0_t3_loop.trips) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v694 : Index := Scalar.indexCast v40
  let c80 : Index := 80#32
  ![v694.toNat, 80]
def k0_off42 (k0_t3 : Fin k0_t3_loop.trips) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v697 : Index := Scalar.indexCast v40
  let c96 : Index := 96#32
  ![v697.toNat, 96]
def k0_off43 (k0_t3 : Fin k0_t3_loop.trips) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v700 : Index := Scalar.indexCast v40
  let c112 : Index := 112#32
  ![v700.toNat, 112]
def k0_off44 (k0_t3 : Fin k0_t3_loop.trips) (c1_i32_267 : BitVec 32) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v703 : BitVec 32 := Scalar.addi v40 c1_i32_267
  let v704 : Index := Scalar.indexCast v703
  let c64_268 : Index := 64#32
  ![v704.toNat, 64]
def k0_off45 (k0_t3 : Fin k0_t3_loop.trips) (c1_i32_269 : BitVec 32) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v708 : BitVec 32 := Scalar.addi v40 c1_i32_269
  let v709 : Index := Scalar.indexCast v708
  let c80_270 : Index := 80#32
  ![v709.toNat, 80]
def k0_off46 (k0_t3 : Fin k0_t3_loop.trips) (c1_i32_271 : BitVec 32) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v713 : BitVec 32 := Scalar.addi v40 c1_i32_271
  let v714 : Index := Scalar.indexCast v713
  let c96_272 : Index := 96#32
  ![v714.toNat, 96]
def k0_off47 (k0_t3 : Fin k0_t3_loop.trips) (c1_i32_273 : BitVec 32) : Fin 2 → Nat :=
  let c0_i32_32 : BitVec 32 := 0#32
  let c1_i32_34 : BitVec 32 := 1#32
  let arg12 : BitVec 32 := Scf.iv c0_i32_32 c1_i32_34 k0_t3
  let c32_i32_40 : BitVec 32 := 32#32
  let v40 : BitVec 32 := Scalar.muli arg12 c32_i32_40
  let v718 : BitVec 32 := Scalar.addi v40 c1_i32_273
  let v719 : Index := Scalar.indexCast v718
  let c112_274 : Index := 112#32
  ![v719.toNat, 112]
def k0_off48 (k0_t1 : Fin k0_t1_loop.trips) (k0_t3 : Fin k0_t3_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_30 : BitVec 32 := 1#32
  let v33 : BitVec 32 := Scalar.addi v13 c1_i32_30
  let c8_i32_41 : BitVec 32 := 8#32
  let v41 : BitVec 32 := Scalar.muli v33 c8_i32_41
  let c0_i32_32 : BitVec 32 := 0#32
  let c1_i32_34 : BitVec 32 := 1#32
  let arg12 : BitVec 32 := Scf.iv c0_i32_32 c1_i32_34 k0_t3
  let v42 : BitVec 32 := Scalar.addi v41 arg12
  let v1323 : Index := Scalar.indexCast v42
  let c64_515 : Index := 64#32
  ![v1323.toNat, 64]
def k0_off49 (k0_t1 : Fin k0_t1_loop.trips) (k0_t3 : Fin k0_t3_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_30 : BitVec 32 := 1#32
  let v33 : BitVec 32 := Scalar.addi v13 c1_i32_30
  let c8_i32_41 : BitVec 32 := 8#32
  let v41 : BitVec 32 := Scalar.muli v33 c8_i32_41
  let c0_i32_32 : BitVec 32 := 0#32
  let c1_i32_34 : BitVec 32 := 1#32
  let arg12 : BitVec 32 := Scf.iv c0_i32_32 c1_i32_34 k0_t3
  let v42 : BitVec 32 := Scalar.addi v41 arg12
  let v1327 : Index := Scalar.indexCast v42
  let c80_516 : Index := 80#32
  ![v1327.toNat, 80]
def k0_off50 (k0_t1 : Fin k0_t1_loop.trips) (k0_t3 : Fin k0_t3_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_30 : BitVec 32 := 1#32
  let v33 : BitVec 32 := Scalar.addi v13 c1_i32_30
  let c8_i32_41 : BitVec 32 := 8#32
  let v41 : BitVec 32 := Scalar.muli v33 c8_i32_41
  let c0_i32_32 : BitVec 32 := 0#32
  let c1_i32_34 : BitVec 32 := 1#32
  let arg12 : BitVec 32 := Scf.iv c0_i32_32 c1_i32_34 k0_t3
  let v42 : BitVec 32 := Scalar.addi v41 arg12
  let v1331 : Index := Scalar.indexCast v42
  let c96_517 : Index := 96#32
  ![v1331.toNat, 96]
def k0_off51 (k0_t1 : Fin k0_t1_loop.trips) (k0_t3 : Fin k0_t3_loop.trips) : Fin 2 → Nat :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_30 : BitVec 32 := 1#32
  let v33 : BitVec 32 := Scalar.addi v13 c1_i32_30
  let c8_i32_41 : BitVec 32 := 8#32
  let v41 : BitVec 32 := Scalar.muli v33 c8_i32_41
  let c0_i32_32 : BitVec 32 := 0#32
  let c1_i32_34 : BitVec 32 := 1#32
  let arg12 : BitVec 32 := Scf.iv c0_i32_32 c1_i32_34 k0_t3
  let v42 : BitVec 32 := Scalar.addi v41 arg12
  let v1335 : Index := Scalar.indexCast v42
  let c112_518 : Index := 112#32
  ![v1335.toNat, 112]
def k0_cond2 (k0_t1 : Fin k0_t1_loop.trips) : BitVec 1 :=
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_36 : BitVec 32 := 1#32
  let v35 : BitVec 32 := Scalar.addi v13 c1_i32_36
  let c2_i32_37 : BitVec 32 := 2#32
  let v36 : BitVec 32 := Scalar.addi v35 c2_i32_37
  let c4_i32_38 : BitVec 32 := 4#32
  let v37 : BitVec 1 := Scalar.cmpi .slt v36 c4_i32_38
  let v38 : BitVec 32 := Scalar.extui v37
  let c0_i32_39 : BitVec 32 := 0#32
  let v39 : BitVec 1 := Scalar.cmpi .ne v38 c0_i32_39
  v39

def k0_off52 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_10 : BitVec 32 := 0#32
  let c0_i32_6 : BitVec 32 := 0#32
  let c1_i32 : BitVec 32 := 1#32
  let arg11 : BitVec 32 := Scf.iv c0_i32_6 c1_i32 k0_t1
  let c2_i32_9 : BitVec 32 := 2#32
  let v12 : BitVec 32 := Scalar.muli arg11 c2_i32_9
  let v13 : BitVec 32 := Scalar.addi c0_i32_10 v12
  let c1_i32_40 : BitVec 32 := 1#32
  let v40 : BitVec 32 := Scalar.addi v13 c1_i32_40
  let c2_i32_41 : BitVec 32 := 2#32
  let v41 : BitVec 32 := Scalar.addi v40 c2_i32_41
  let c8_i32_42 : BitVec 32 := 8#32
  let v42 : BitVec 32 := Scalar.muli v41 c8_i32_42
  let v43 : BitVec 32 := Scalar.addi v2 v42
  let c32_i32_43 : BitVec 32 := 32#32
  let v44 : BitVec 32 := Scalar.muli v43 c32_i32_43
  let c0_i32_44 : BitVec 32 := 0#32
  ![v44.toNat, 0]
def k0_off53 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_9_r0 : BitVec 32 := 0#32
  ![v2.toNat, 0]
abbrev grid1 : Pipeline.Grid := ⟨1, ![6], ![false]⟩

def cc1_transform_0 (i : grid1.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage1_0 : Fin 2 → Memref sig .tc .vmem S512x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x32x128 : Shape := ⟨3, ![4096, 32, 128]⟩
abbrev S128x128 : Shape := ⟨2, ![128, 128]⟩
abbrev S128 : Shape := ⟨1, ![128]⟩
abbrev S131072x128 : Shape := ⟨2, ![131072, 128]⟩
abbrev S4096 : Shape := ⟨1, ![4096]⟩
abbrev S4096x32 : Shape := ⟨2, ![4096, 32]⟩
abbrev S131072 : Shape := ⟨1, ![131072]⟩
abbrev S1x128 : Shape := ⟨2, ![1, 128]⟩
abbrev S_ : Shape := ⟨0, ![]⟩
abbrev S4096x128 : Shape := ⟨2, ![4096, 128]⟩
abbrev S131072x1 : Shape := ⟨2, ![131072, 1]⟩

abbrev nBuf : Space → Nat
  | .hbm => 16
  | .vmem => 0
  | .smem => 0
  | _ => 0

abbrev bufTy : (tb : Table) → Fin (tcTables nBuf tb) → BufTy
  | .hbm, ⟨0, _⟩ => ⟨S4096x32x128, .f32⟩
  | .hbm, ⟨1, _⟩ => ⟨S128x128, .f32⟩
  | .hbm, ⟨2, _⟩ => ⟨S128, .f32⟩
  | .hbm, ⟨3, _⟩ => ⟨S131072x128, .f32⟩
  | .hbm, ⟨4, _⟩ => ⟨S4096, .i32⟩
  | .hbm, ⟨5, _⟩ => ⟨S4096x32, .i32⟩
  | .hbm, ⟨6, _⟩ => ⟨S131072, .i32⟩
  | .hbm, ⟨7, _⟩ => ⟨S128x128, .f32⟩
  | .hbm, ⟨8, _⟩ => ⟨S131072x128, .f32⟩
  | .hbm, ⟨9, _⟩ => ⟨S1x128, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S4096x128, .f32⟩
  | .hbm, ⟨14, _⟩ => ⟨S131072x1, .i32⟩
  | .hbm, ⟨15, _⟩ => ⟨S4096x128, .f32⟩
  | _, _ => ⟨S4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Element.lean ====
/-
  One element of a SparseCore task, written compactly. The printed loop body of an element is 256 loads, 248 additions
  and 8 stores in a row; here it is two groups of four lane blocks, each group a first row of loads, thirty-one further
  rows added one after the other, and four stores. The printed body IS this program (`t2_body_eq`, `t3_body_eq`).
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.Proof

open Cert.KernelIdeal Cert.KernelIdeal.Gen
open Idealize.ShloMosaic Idealize.SL.Sem

variable {F : FTy → Type} [FloatOps F]

/-- The programs of vector subcore `(c, s)`. -/
abbrev VProg (F : FTy → Type) [FloatOps F] (c : Fin τ.nSC) (s : Fin τ.nSub) : Type 1 := Prog (TpuEff nD τ sig (Elt F) Λ₀ (.scVector c s)) PUnit

/-- Offsets of a row of sixteen lanes that lies inside the fetched block of rows. -/
abbrev InA (o : Fin 2 → ℕ) : Prop := ∀ a, o a + S1x16.size a ≤ S256x128.size a
/-- Offsets of a row of sixteen lanes that lies inside the block of results. -/
abbrev InG (o : Fin 2 → ℕ) : Prop := ∀ a, o a + S1x16.size a ≤ S32x128.size a

/-- A loaded row of lanes as a vector of sixteen. -/
abbrev lanes (v : Vec F S1x16 .f32) : FVec F S16 .f32 := shapeCast S16 v shapeCasts_S1x16_S16
/-- A vector of sixteen as the row of lanes that is stored. -/
abbrev unlanes (v : FVec F S16 .f32) : FVec F S1x16 .f32 := shapeCast S1x16 v shapeCasts_S16_S1x16

section
variable {c : Fin τ.nSC} {s : Fin τ.nSub} (A : Memref sig .scVector .vmem S256x128 .f32) (G : Memref sig .scVector .vmem S32x128 .f32)

/-- Load sixteen lanes of the fetched rows, then go on. -/
abbrev ldA (o : Fin 2 → ℕ) (h : InA o) (k : Vec F S1x16 .f32 → VProg F c s) : VProg F c s :=
  .op (.load A (Rect.unit (s := S256x128) o S1x16.size h).toLoadRect (View.loadsAt_vmem h_S1x16)) k

/-- Load (and drop) sixteen lanes of the results, store there, then go on. -/
abbrev stG (o : Fin 2 → ℕ) (h : InG o) (v : FVec F S16 .f32) (k : VProg F c s) : VProg F c s :=
  .op (.load G (Rect.unit (s := S32x128) o S1x16.size h).toLoadRect (View.loadsAt_vmem h_S1x16)) fun _ =>
  .op (.store G (Rect.unit (s := S32x128) o S1x16.size h) (unlanes v) Finset.univ (View.stores_vmem_bits_univ h_S1x16 rfl) (.inl rfl)) fun _ => k

/-- The remaining `n` of thirty-one rows, from row `p` on: four loads, four additions each. -/
def rows (o : Fin 4 → BitVec 32 → Fin 2 → ℕ) (h : ∀ (d : Fin 4) (r : Fin 31), InA (o d (BitVec.ofNat 32 (1 + r.val))))
    (k : FVec F S16 .f32 → FVec F S16 .f32 → FVec F S16 .f32 → FVec F S16 .f32 → VProg F c s) :
    (n p : ℕ) → p + n = 31 → FVec F S16 .f32 → FVec F S16 .f32 → FVec F S16 .f32 → FVec F S16 .f32 → VProg F c s
  | 0, _, _, a0, a1, a2, a3 => k a0 a1 a2 a3
  | n + 1, p, e, a0, a1, a2, a3 =>
    ldA A _ (h 0 ⟨p, by omega⟩) fun v0 => ldA A _ (h 1 ⟨p, by omega⟩) fun v1 => ldA A _ (h 2 ⟨p, by omega⟩) fun v2 => ldA A _ (h 3 ⟨p, by omega⟩) fun v3 =>
      rows o h k n (p + 1) (by omega) (addf a0 (lanes v0)) (addf a1 (lanes v1)) (addf a2 (lanes v2)) (addf a3 (lanes v3))

/-- A group of four lane blocks: the first row's loads, the other rows, the four stores. -/
def group (o0 : Fin 4 → Fin 2 → ℕ) (h0 : ∀ d, InA (o0 d)) (o : Fin 4 → BitVec 32 → Fin 2 → ℕ)
    (h : ∀ (d : Fin 4) (r : Fin 31), InA (o d (BitVec.ofNat 32 (1 + r.val)))) (og : Fin 4 → Fin 2 → ℕ) (hg : ∀ d, InG (og d)) (k : VProg F c s) : VProg F c s :=
  ldA A _ (h0 0) fun v0 => ldA A _ (h0 1) fun v1 => ldA A _ (h0 2) fun v2 => ldA A _ (h0 3) fun v3 =>
    rows A o h (fun a0 a1 a2 a3 => stG G _ (hg 0) a0 <| stG G _ (hg 1) a1 <| stG G _ (hg 2) a2 <| stG G _ (hg 3) a3 k)
      31 0 rfl (lanes v0) (lanes v1) (lanes v2) (lanes v3)

end

/-- Four things, one for each lane block. -/
def four {α : Type} (a b c d : α) : Fin 4 → α
  | 0 => a | 1 => b | 2 => c | 3 => d

/-- A property of the four lane blocks, from each. -/
theorem all4 {p : Fin 4 → Prop} (h0 : p 0) (h1 : p 1) (h2 : p 2) (h3 : p 3) : ∀ d, p d
  | 0 => h0 | 1 => h1 | 2 => h2 | 3 => h3

/-- An element of the chunk in the first buffer. -/
def elem2 {c : Fin τ.nSC} {s : Fin τ.nSub} (A : Memref sig .scVector .vmem S256x128 .f32) (G : Memref sig .scVector .vmem S32x128 .f32)
    (t1 : Fin k0_t1_loop.trips) (t : Fin k0_t2_loop.trips) : VProg F c s :=
  group A G (four (k0_off3 t) (k0_off4 t) (k0_off5 t) (k0_off6 t)) (all4 (k0_off3_inb t) (k0_off4_inb t) (k0_off5_inb t) (k0_off6_inb t))
    (four (k0_off7 t) (k0_off8 t) (k0_off9 t) (k0_off10 t)) (all4 (k0_off7_inb t) (k0_off8_inb t) (k0_off9_inb t) (k0_off10_inb t))
    (four (k0_off11 t1 t) (k0_off12 t1 t) (k0_off13 t1 t) (k0_off14 t1 t)) (all4 (k0_off11_inb t1 t) (k0_off12_inb t1 t) (k0_off13_inb t1 t) (k0_off14_inb t1 t)) <|
  group A G (four (k0_off15 t) (k0_off16 t) (k0_off17 t) (k0_off18 t)) (all4 (k0_off15_inb t) (k0_off16_inb t) (k0_off17_inb t) (k0_off18_inb t))
    (four (k0_off19 t) (k0_off20 t) (k0_off21 t) (k0_off22 t)) (all4 (k0_off19_inb t) (k0_off20_inb t) (k0_off21_inb t) (k0_off22_inb t))
    (four (k0_off23 t1 t) (k0_off24 t1 t) (k0_off25 t1 t) (k0_off26 t1 t)) (all4 (k0_off23_inb t1 t) (k0_off24_inb t1 t) (k0_off25_inb t1 t) (k0_off26_inb t1 t)) <|
  .ret ⟨⟩

/-- An element of the chunk in the second buffer. -/
def elem3 {c : Fin τ.nSC} {s : Fin τ.nSub} (A : Memref sig .scVector .vmem S256x128 .f32) (G : Memref sig .scVector .vmem S32x128 .f32)
    (t1 : Fin k0_t1_loop.trips) (t : Fin k0_t3_loop.trips) : VProg F c s :=
  group A G (four (k0_off28 t) (k0_off29 t) (k0_off30 t) (k0_off31 t)) (all4 (k0_off28_inb t) (k0_off29_inb t) (k0_off30_inb t) (k0_off31_inb t))
    (four (k0_off32 t) (k0_off33 t) (k0_off34 t) (k0_off35 t)) (all4 (k0_off32_inb t) (k0_off33_inb t) (k0_off34_inb t) (k0_off35_inb t))
    (four (k0_off36 t1 t) (k0_off37 t1 t) (k0_off38 t1 t) (k0_off39 t1 t)) (all4 (k0_off36_inb t1 t) (k0_off37_inb t1 t) (k0_off38_inb t1 t) (k0_off39_inb t1 t)) <|
  group A G (four (k0_off40 t) (k0_off41 t) (k0_off42 t) (k0_off43 t)) (all4 (k0_off40_inb t) (k0_off41_inb t) (k0_off42_inb t) (k0_off43_inb t))
    (four (k0_off44 t) (k0_off45 t) (k0_off46 t) (k0_off47 t)) (all4 (k0_off44_inb t) (k0_off45_inb t) (k0_off46_inb t) (k0_off47_inb t))
    (four (k0_off48 t1 t) (k0_off49 t1 t) (k0_off50 t1 t) (k0_off51 t1 t)) (all4 (k0_off48_inb t1 t) (k0_off49_inb t1 t) (k0_off50_inb t1 t) (k0_off51_inb t1 t)) <|
  .ret ⟨⟩

section
variable (i : grid0.Coords) (arg2 : Memref sig .scVector .hbm S131072x128 .f32) (harg2 : arg2.IsWhole) (arg3 : Memref sig .scVector .hbm S1024x128 .f32) (harg3 : arg3.IsWhole)
  (arg4 : Memref sig .scVector .vmem S256x128 .f32) (harg4 : arg4.IsWhole) (arg5 : Memref sig .scVector .vmem S256x128 .f32) (harg5 : arg5.IsWhole)
  (arg6 : Memref sig .scVector .vmem S256x128 .f32) (harg6 : arg6.IsWhole) (arg7 : Memref sig .scVector .vmem S32x128 .f32) (harg7 : arg7.IsWhole)
  (arg8 arg9 arg10 v12_r0 : DmaSems sig S_) (v2 c0 c1 : BitVec 32) (t1 : Fin k0_t1_loop.trips) (w : BitVec 32)

set_option maxRecDepth 65536 in
/-- The printed body of the first buffer's element loop is the compact program. -/
theorem t2_body_eq (t : Fin k0_t2_loop.trips) :
    k0_t2_body (F := F) i arg2 harg2 arg3 harg3 arg4 harg4 arg5 harg5 arg6 harg6 arg7 harg7 arg8 arg9 arg10 v12_r0 v2 c0 c1 t1 w t ()
      = elem2 arg4 arg7 t1 t := by chain_rfl

set_option maxRecDepth 65536 in
/-- The printed body of the second buffer's element loop is the compact program, over that buffer. -/
theorem t3_body_eq (t : Fin k0_t3_loop.trips) :
    k0_t3_body (F := F) i arg2 harg2 arg3 harg3 arg4 harg4 arg5 harg5 arg6 harg6 arg7 harg7 arg8 arg9 arg10 v12_r0 v2 c0 c1 t1 w t ()
      = elem3 arg5 arg7 t1 t := by chain_rfl

end

end Cert.Proof

end
-- ==== Proof.ElementRun.lean ====
/-
  What one element of a SparseCore task leaves: row `γ` of the block of results holds, lane by lane, the left-to-right sum of
  the thirty-two fetched rows of that element; every other row is as before.
-/
module

public import proofs.«01_k».proof.Proof.Element
public import Idealize.ShloMosaic.Lib.SparseCore.Quiescent
public import Idealize.ShloMosaic.Lib.SparseCore.Ops
public import Idealize.ShloMosaic.Lib.Pointwise
public import Idealize.ShloMosaic.Lib.Pipeline.Value
public import Idealize.ShloMosaic.Lib.Writes
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## Values by natural coordinates -/

/-- The entry of a matrix at natural coordinates (taken modulo its sizes). -/
def at2 {α : Type} {m n : ℕ} [NeZero m] [NeZero n] (X : (⟨2, ![m, n]⟩ : Shape).Idx → α) (r c : ℕ) : α :=
  X (ix2 (Fin.ofNat m r) (Fin.ofNat n c))

/-- In bounds, the entry at an index's coordinates is the entry at that index. -/
theorem at2_eq {α : Type} {m n : ℕ} [NeZero m] [NeZero n] (X : (⟨2, ![m, n]⟩ : Shape).Idx → α) (i : (⟨2, ![m, n]⟩ : Shape).Idx) {r c : ℕ}
    (h0 : (i 0).val = r) (h1 : (i 1).val = c) : X i = at2 X r c := by
  subst h0 h1
  unfold at2
  congr 1
  funext a
  match a with
  | ⟨0, _⟩ => exact Fin.ext (Nat.mod_eq_of_lt (i 0).isLt).symm
  | ⟨1, _⟩ => exact Fin.ext (Nat.mod_eq_of_lt (i 1).isLt).symm

variable {F : FTy → Type} [FloatOps F]

/-- The sum `g 0 + g 1 + … + g n`, added left to right. -/
def foldUp (g : ℕ → F .f32) : ℕ → F .f32
  | 0 => g 0
  | n + 1 => FloatOps.addf (foldUp g n) (g (n + 1))

/-- The sum of rows `ρ … ρ + n` of a fetched block, at column `c`. -/
def rowSum {m n : ℕ} [NeZero m] [NeZero n] (X : (⟨2, ![m, n]⟩ : Shape).Idx → F .f32) (ρ k c : ℕ) : F .f32 := foldUp (fun p => at2 X (ρ + p) c) k

/-- The sixteen lanes from column `c` of `rowSum`. -/
def accV (X : S256x128.Idx → F .f32) (ρ k c : ℕ) : FVec F S16 .f32 := fun l => rowSum X ρ k (c + (l 0).val)

/-- `Y` with columns `lo … hi - 1` of row `γ` replaced by `g`. -/
def upd {α : Type} (Y : S32x128.Idx → α) (γ lo hi : ℕ) (g : ℕ → α) : S32x128.Idx → α :=
  fun i => if (i 0).val = γ ∧ lo ≤ (i 1).val ∧ (i 1).val < hi then g (i 1).val else Y i

omit [FloatOps F] in
/-- Adjacent columns replaced one after the other. -/
theorem upd_upd {α : Type} (Y : S32x128.Idx → α) (γ lo mid hi : ℕ) (g : ℕ → α) (h : lo ≤ mid) (h' : mid ≤ hi) :
    upd (upd Y γ lo mid g) γ mid hi g = upd Y γ lo hi g := by
  funext i
  unfold upd
  split_ifs <;> first | rfl | omega

/-! ## The operations -/

section Ops
variable {U : Type} [URA U] {c : Fin τ.nSC} {s : Fin τ.nSub} (d : Dev nD)
  {Lvl : Type} [Preorder Lvl] {Ix Name : Type} [DecidableEq Ix] [DecidableEq Name] {defs : Defs nD τ sig (Elt F) Λ₀} (𝒱 : Variants) (bd : Option 𝒱.V) (E : Set Name)
  (A : Memref sig .scVector .vmem S256x128 .f32) (G : Memref sig .scVector .vmem S32x128 .f32)
  {Q : PUnit → sProp (MT nD τ sig Ix (Elt F) Name U Lvl)}

local notation "𝕄" => MT nD τ sig Ix (Elt F) Name U Lvl

/-- What a load of a row of lanes reads, as a vector of sixteen. -/
theorem lanes_load (f : A.view.ty.Contents (Elt F)) {o : Fin 2 → ℕ} (h : InA o) {ρ col : ℕ} (ho : o = ![ρ, col]) (l : S16.Idx) :
    lanes (F := F) (A.view.readAt (Elt F) (Rect.unit (s := S256x128) o S1x16.size h).toLoadRect f) l
      = at2 (A.view.read (Elt F) f) ρ (col + (l 0).val) := by
  subst ho
  unfold lanes
  refine (shapeCast_dropUnit_apply (![16] : Fin 1 → ℕ) _ _ l).trans ?_
  rw [View.readAt_apply]
  refine at2_eq (m := 256) (n := 128) _ _ ?_ ?_
  · show ρ + 1 * 0 = ρ; omega
  · show col + 1 * (l 0).val = _; omega

/-- A store of sixteen lanes replaces sixteen columns of one row. -/
theorem read_store (f : G.view.ty.Contents (Elt F)) {o : Fin 2 → ℕ} (h : InG o) {γ col : ℕ} (ho : o = ![γ, col]) (v : FVec F S16 .f32)
    (g : ℕ → F .f32) (hv : ∀ l : S16.Idx, v l = g (col + (l 0).val)) :
    G.view.read (Elt F) ((G.access (Rect.unit (s := S32x128) o S1x16.size h)).write (Elt F) f (unlanes v) Finset.univ)
      = upd (G.view.read (Elt F) f) γ col (col + 16) g := by
  subst ho
  funext i
  unfold upd
  split_ifs with hi
  · have hx : ∃ x : S1x16.Idx, (Rect.unit (s := S32x128) ![γ, col] S1x16.size h).emb x = i := by
      refine ⟨ix2 (n0 := 1) (n1 := 16) 0 ⟨(i 1).val - col, by omega⟩, ?_⟩
      refine Shape.idx_ext₂ (n := ![32, 128]) ?_ ?_
      · show γ + 1 * 0 = (i 0).val; omega
      · show col + 1 * ((i 1).val - col) = (i 1).val; omega
    obtain ⟨x, rfl⟩ := hx
    refine (View.read_slice_write_emb (v := G.view) (Rect.unit (s := S32x128) ![γ, col] S1x16.size h) f (unlanes v) (Finset.mem_univ x)).trans ?_
    unfold unlanes
    refine (shapeCast_addUnit_apply (![16] : Fin 1 → ℕ) v _ x).trans ((hv _).trans (congrArg g ?_))
    show col + (x 1).val = col + 1 * (x 1).val; omega
  · refine View.read_slice_write_of_not_mem (v := G.view) (Rect.unit (s := S32x128) ![γ, col] S1x16.size h) f (unlanes v) Finset.univ fun hm => hi ?_
    obtain ⟨x, -, rfl⟩ := Finset.mem_map.mp hm
    have h0 : (x 0).val < 1 := (x 0).isLt
    have h1 : (x 1).val < 16 := (x 1).isLt
    refine ⟨?_, ?_, ?_⟩
    · show γ + 1 * (x 0).val = γ; omega
    · show col ≤ col + 1 * (x 1).val; omega
    · show col + 1 * (x 1).val < col + 16; omega

abbrev thrV (d : Dev nD) (c : Fin τ.nSC) (s : Fin τ.nSub) : Thread nD τ := (d, .scVector c s)

/-- A load of fetched lanes at the head of a program. -/
theorem wp_ldA {o : Fin 2 → ℕ} (h : InA o) {k : Vec F S1x16 .f32 → VProg F c s} {q : PosShare TreeShare} {f : Buf (Elt F) (A.view.loc (thrV d c s))} :
    (A.view.loc (thrV d c s) ↦{q} f)
      ⊢ iprop(((A.view.loc (thrV d c s) ↦{q} f) -∗ wp frame (wpE defs 𝒱 (thrV d c s) bd) E (k (A.view.readAt (Elt F) (Rect.unit (s := S256x128) o S1x16.size h).toLoadRect f)) Q)
        -∗ wp frame (wpE defs 𝒱 (thrV d c s) bd) E (ldA A o h k) Q) :=
  wp_load 𝒱 (thrV d c s) bd E (Finset.subset_univ _)

/-- A store of sixteen lanes of results at the head of a program. -/
theorem wp_stG {o : Fin 2 → ℕ} (h : InG o) {γ col : ℕ} (ho : o = ![γ, col]) {v : FVec F S16 .f32} {k : VProg F c s} {f : Buf (Elt F) (G.view.loc (thrV d c s))}
    {Y : S32x128.Idx → F .f32} (hf : G.view.read (Elt F) f = Y) (g : ℕ → F .f32) (hv : ∀ l : S16.Idx, v l = g (col + (l 0).val)) :
    (G.view.loc (thrV d c s) ↦{fullShare} f)
      ⊢ iprop((∀ f', ⌜G.view.read (Elt F) f' = upd Y γ col (col + 16) g⌝ -∗ (G.view.loc (thrV d c s) ↦{fullShare} f') -∗ wp frame (wpE defs 𝒱 (thrV d c s) bd) E k Q)
        -∗ wp frame (wpE defs 𝒱 (thrV d c s) bd) E (stG G o h v k) Q) := by
  iintro Hf Hk
  iapply (wp_load (defs := defs) (Q := Q) 𝒱 (thrV d c s) bd E (m := G) (r := (Rect.unit (s := S32x128) o S1x16.size h).toLoadRect) (f := f) (q := fullShare)
    (S := (Finset.univ : Finset (Idx (G.view.loc (thrV d c s))))) (Finset.subset_univ _)) $$ [Hf]
  · iexact Hf
  iintro Hf
  iapply (wp_store_writes₀ (defs := defs) (Q := Q) 𝒱 (thrV d c s) bd E (m := G) (r := Rect.unit (s := S32x128) o S1x16.size h) (f := f)
    (w := unlanes v) (S := (Finset.univ : Finset (Idx (G.view.loc (thrV d c s))))) (Finset.subset_univ _)) $$ [Hf]
  · iexact Hf
  iintro Hf
  ispecialize Hk $$ %(G.view.writes (Elt F) f [⟨Rect.unit (s := S32x128) o S1x16.size h, unlanes v⟩])
  iapply Hk $$ [] [Hf]
  · ipureintro
    rw [← hf]; exact read_store G f h ho v g hv
  · iexact Hf

/-! ## A group of lane blocks, and an element -/

/-- The thirty-one further rows: the four accumulators end as the sums of all thirty-two rows. -/
theorem wp_rows {o : Fin 4 → BitVec 32 → Fin 2 → ℕ} (h : ∀ (a : Fin 4) (r : Fin 31), InA (o a (BitVec.ofNat 32 (1 + r.val)))) {ρ : ℕ} {col : Fin 4 → ℕ}
    (ho : ∀ (a : Fin 4) (r : Fin 31), o a (BitVec.ofNat 32 (1 + r.val)) = ![ρ + r.val + 1, col a])
    {k : FVec F S16 .f32 → FVec F S16 .f32 → FVec F S16 .f32 → FVec F S16 .f32 → VProg F c s} {q : PosShare TreeShare} {f : Buf (Elt F) (A.view.loc (thrV d c s))}
    {X : S256x128.Idx → F .f32} (hX : A.view.read (Elt F) f = X) :
    ∀ (n p : ℕ) (e : p + n = 31),
    (A.view.loc (thrV d c s) ↦{q} f)
      ⊢ iprop(((A.view.loc (thrV d c s) ↦{q} f) -∗ wp frame (wpE defs 𝒱 (thrV d c s) bd) E
            (k (accV X ρ 31 (col 0)) (accV X ρ 31 (col 1)) (accV X ρ 31 (col 2)) (accV X ρ 31 (col 3))) Q)
        -∗ wp frame (wpE defs 𝒱 (thrV d c s) bd) E
            (rows A o h k n p e (accV X ρ p (col 0)) (accV X ρ p (col 1)) (accV X ρ p (col 2)) (accV X ρ p (col 3))) Q)
  | 0, p, e => by
    obtain rfl : p = 31 := by omega
    iintro Hf Hk
    iapply Hk; iexact Hf
  | n + 1, p, e => by
    have hacc : ∀ a : Fin 4, addf (accV X ρ p (col a)) (lanes (A.view.readAt (Elt F) (Rect.unit (s := S256x128) _ S1x16.size (h a ⟨p, by omega⟩)).toLoadRect f))
        = accV X ρ (p + 1) (col a) := fun a => funext fun l => by
      show FloatOps.addf _ _ = FloatOps.addf _ _
      rw [lanes_load (F := F) A f _ (ho a ⟨p, by omega⟩) l, hX]
      rfl
    iintro Hf Hk
    unfold rows
    iapply (wp_ldA d 𝒱 bd E A _) $$ [Hf]; · iexact Hf
    iintro Hf
    iapply (wp_ldA d 𝒱 bd E A _) $$ [Hf]; · iexact Hf
    iintro Hf
    iapply (wp_ldA d 𝒱 bd E A _) $$ [Hf]; · iexact Hf
    iintro Hf
    iapply (wp_ldA d 𝒱 bd E A _) $$ [Hf]; · iexact Hf
    iintro Hf
    rw [hacc 0, hacc 1, hacc 2, hacc 3]
    iapply (wp_rows h ho hX n (p + 1) _) $$ [Hf] [Hk]
    · iexact Hf
    · iexact Hk

/-- A group: sixty-four columns of row `γ` of the results are the sums of the element's thirty-two rows there. -/
theorem wp_group {o0 : Fin 4 → Fin 2 → ℕ} (h0 : ∀ a, InA (o0 a)) {o : Fin 4 → BitVec 32 → Fin 2 → ℕ}
    (h : ∀ (a : Fin 4) (r : Fin 31), InA (o a (BitVec.ofNat 32 (1 + r.val)))) {og : Fin 4 → Fin 2 → ℕ} (hg : ∀ a, InG (og a)) {ρ γ lo : ℕ}
    (ho0 : ∀ a : Fin 4, o0 a = ![ρ, lo + 16 * a.val]) (ho : ∀ (a : Fin 4) (r : Fin 31), o a (BitVec.ofNat 32 (1 + r.val)) = ![ρ + r.val + 1, lo + 16 * a.val])
    (hog : ∀ a : Fin 4, og a = ![γ, lo + 16 * a.val]) {k : VProg F c s} {q : PosShare TreeShare}
    {f : Buf (Elt F) (A.view.loc (thrV d c s))} {X : S256x128.Idx → F .f32} (hX : A.view.read (Elt F) f = X)
    {g : Buf (Elt F) (G.view.loc (thrV d c s))} {Y : S32x128.Idx → F .f32} (hY : G.view.read (Elt F) g = Y) :
    iprop((A.view.loc (thrV d c s) ↦{q} f) ∗ (G.view.loc (thrV d c s) ↦{fullShare} g))
      ⊢ iprop((∀ g', ⌜G.view.read (Elt F) g' = upd Y γ lo (lo + 64) (rowSum X ρ 31)⌝ -∗ (A.view.loc (thrV d c s) ↦{q} f)
            -∗ (G.view.loc (thrV d c s) ↦{fullShare} g') -∗ wp frame (wpE defs 𝒱 (thrV d c s) bd) E k Q)
        -∗ wp frame (wpE defs 𝒱 (thrV d c s) bd) E (group A G o0 h0 o h og hg k) Q) := by
  have hfirst : ∀ a : Fin 4, lanes (A.view.readAt (Elt F) (Rect.unit (s := S256x128) _ S1x16.size (h0 a)).toLoadRect f) = accV X ρ 0 (lo + 16 * a.val) :=
    fun a => funext fun l => by rw [lanes_load (F := F) A f _ (ho0 a) l, hX]; rfl
  iintro ⟨Hf, Hg⟩ Hk
  unfold group
  iapply (wp_ldA d 𝒱 bd E A _) $$ [Hf]; · iexact Hf
  iintro Hf
  iapply (wp_ldA d 𝒱 bd E A _) $$ [Hf]; · iexact Hf
  iintro Hf
  iapply (wp_ldA d 𝒱 bd E A _) $$ [Hf]; · iexact Hf
  iintro Hf
  iapply (wp_ldA d 𝒱 bd E A _) $$ [Hf]; · iexact Hf
  iintro Hf
  rw [hfirst 0, hfirst 1, hfirst 2, hfirst 3]
  iapply (wp_rows d 𝒱 bd E A h (ρ := ρ) (col := fun a => lo + 16 * a.val) ho hX 31 0 rfl) $$ [Hf]; · iexact Hf
  iintro Hf
  iapply (wp_stG d 𝒱 bd E G (hg 0) (hog 0) hY (rowSum X ρ 31) (fun _ => rfl)) $$ [Hg]; · iexact Hg
  iintro %g0 %e0 Hg
  iapply (wp_stG d 𝒱 bd E G (hg 1) (hog 1) e0 (rowSum X ρ 31) (fun _ => rfl)) $$ [Hg]; · iexact Hg
  iintro %g1 %e1 Hg
  iapply (wp_stG d 𝒱 bd E G (hg 2) (hog 2) e1 (rowSum X ρ 31) (fun _ => rfl)) $$ [Hg]; · iexact Hg
  iintro %g2 %e2 Hg
  iapply (wp_stG d 𝒱 bd E G (hg 3) (hog 3) e2 (rowSum X ρ 31) (fun _ => rfl)) $$ [Hg]; · iexact Hg
  iintro %g3 %e3 Hg
  ispecialize Hk $$ %g3
  iapply Hk $$ [] [Hf] [Hg]
  · ipureintro
    rw [e3]
    show upd (upd (upd (upd Y γ (lo + 0) (lo + 16) _) γ (lo + 16) (lo + 32) _) γ (lo + 32) (lo + 48) _) γ (lo + 48) (lo + 64) _ = _
    rw [upd_upd _ _ _ _ _ _ (by omega) (by omega), upd_upd _ _ _ _ _ _ (by omega) (by omega), upd_upd _ _ _ _ _ _ (by omega) (by omega)]
    rfl
  · iexact Hf
  · iexact Hg

/-- `Y` with row `γ` replaced by the sums of rows `ρ … ρ + 31` of `X`. -/
abbrev putRow (Y : S32x128.Idx → F .f32) (γ : ℕ) (X : S256x128.Idx → F .f32) (ρ : ℕ) : S32x128.Idx → F .f32 := upd Y γ 0 128 (rowSum X ρ 31)

/-- Element `t` of the first buffer in trip `t1`: row `16 t1 + t` of the results is the sum of rows `32 t … 32 t + 31`. -/
theorem wp_elem2 (t1 : Fin k0_t1_loop.trips) (t : Fin k0_t2_loop.trips) {q : PosShare TreeShare}
    {f : Buf (Elt F) (A.view.loc (thrV d c s))} {X : S256x128.Idx → F .f32} (hX : A.view.read (Elt F) f = X)
    {g : Buf (Elt F) (G.view.loc (thrV d c s))} {Y : S32x128.Idx → F .f32} (hY : G.view.read (Elt F) g = Y) :
    (iprop((A.view.loc (thrV d c s) ↦{q} f) ∗ (G.view.loc (thrV d c s) ↦{fullShare} g)) : sProp 𝕄)
      ⊢ wp frame (wpE defs 𝒱 (thrV d c s) bd) E (elem2 A G t1 t) fun _ => iprop((A.view.loc (thrV d c s) ↦{q} f)
          ∗ ∃ g', ⌜G.view.read (Elt F) g' = putRow Y (16 * t1.val + t.val) X (32 * t.val)⌝ ∗ (G.view.loc (thrV d c s) ↦{fullShare} g')) := by
  iintro ⟨Hf, Hg⟩
  unfold elem2
  iapply (wp_group d 𝒱 bd E A G _ _ _ (ρ := 32 * t.val) (γ := 16 * t1.val + t.val) (lo := 0)
    (all4 (k0_off3_eq t) (k0_off4_eq t) (k0_off5_eq t) (k0_off6_eq t)) (all4 (k0_off7_eq t) (k0_off8_eq t) (k0_off9_eq t) (k0_off10_eq t))
    (all4 (k0_off11_eq t1 t) (k0_off12_eq t1 t) (k0_off13_eq t1 t) (k0_off14_eq t1 t)) hX hY) $$ [Hf Hg]
  · isplitl [Hf] <;> iassumption
  iintro %g1 %e1 Hf Hg
  iapply (wp_group d 𝒱 bd E A G _ _ _ (ρ := 32 * t.val) (γ := 16 * t1.val + t.val) (lo := 64)
    (all4 (k0_off15_eq t) (k0_off16_eq t) (k0_off17_eq t) (k0_off18_eq t)) (all4 (k0_off19_eq t) (k0_off20_eq t) (k0_off21_eq t) (k0_off22_eq t))
    (all4 (k0_off23_eq t1 t) (k0_off24_eq t1 t) (k0_off25_eq t1 t) (k0_off26_eq t1 t)) hX e1) $$ [Hf Hg]
  · isplitl [Hf] <;> iassumption
  iintro %g2 %e2 Hf Hg
  iapply (le_wp_ret frame (wpE defs 𝒱 (thrV d c s) bd) E _ _)
  isplitl [Hf]; · iexact Hf
  iexists g2
  isplitr
  · ipureintro; rw [e2]; exact upd_upd _ _ _ _ _ _ (by omega) (by omega)
  · iexact Hg

/-- Element `t` of the second buffer in trip `t1`: row `16 t1 + 8 + t` of the results likewise. -/
theorem wp_elem3 (t1 : Fin k0_t1_loop.trips) (t : Fin k0_t3_loop.trips) {q : PosShare TreeShare}
    {f : Buf (Elt F) (A.view.loc (thrV d c s))} {X : S256x128.Idx → F .f32} (hX : A.view.read (Elt F) f = X)
    {g : Buf (Elt F) (G.view.loc (thrV d c s))} {Y : S32x128.Idx → F .f32} (hY : G.view.read (Elt F) g = Y) :
    (iprop((A.view.loc (thrV d c s) ↦{q} f) ∗ (G.view.loc (thrV d c s) ↦{fullShare} g)) : sProp 𝕄)
      ⊢ wp frame (wpE defs 𝒱 (thrV d c s) bd) E (elem3 A G t1 t) fun _ => iprop((A.view.loc (thrV d c s) ↦{q} f)
          ∗ ∃ g', ⌜G.view.read (Elt F) g' = putRow Y (16 * t1.val + t.val + 8) X (32 * t.val)⌝ ∗ (G.view.loc (thrV d c s) ↦{fullShare} g')) := by
  iintro ⟨Hf, Hg⟩
  unfold elem3
  iapply (wp_group d 𝒱 bd E A G _ _ _ (ρ := 32 * t.val) (γ := 16 * t1.val + t.val + 8) (lo := 0)
    (all4 (k0_off28_eq t) (k0_off29_eq t) (k0_off30_eq t) (k0_off31_eq t)) (all4 (k0_off32_eq t) (k0_off33_eq t) (k0_off34_eq t) (k0_off35_eq t))
    (all4 (k0_off36_eq t1 t) (k0_off37_eq t1 t) (k0_off38_eq t1 t) (k0_off39_eq t1 t)) hX hY) $$ [Hf Hg]
  · isplitl [Hf] <;> iassumption
  iintro %g1 %e1 Hf Hg
  iapply (wp_group d 𝒱 bd E A G _ _ _ (ρ := 32 * t.val) (γ := 16 * t1.val + t.val + 8) (lo := 64)
    (all4 (k0_off40_eq t) (k0_off41_eq t) (k0_off42_eq t) (k0_off43_eq t)) (all4 (k0_off44_eq t) (k0_off45_eq t) (k0_off46_eq t) (k0_off47_eq t))
    (all4 (k0_off48_eq t1 t) (k0_off49_eq t1 t) (k0_off50_eq t1 t) (k0_off51_eq t1 t)) hX e1) $$ [Hf Hg]
  · isplitl [Hf] <;> iassumption
  iintro %g2 %e2 Hf Hg
  iapply (le_wp_ret frame (wpE defs 𝒱 (thrV d c s) bd) E _ _)
  isplitl [Hf]; · iexact Hf
  iexists g2
  isplitr
  · ipureintro; rw [e2]; exact upd_upd _ _ _ _ _ _ (by omega) (by omega)
  · iexact Hg

end Ops

end Cert.Proof

end
-- ==== Proof.Setup.lean ====
/-
  The launch as the proof sees it: the kernel's program as a SparseCore launch over the two TensorCore pipelines, the ghost
  state (the handshakes' rounds, the pipelines' rounds, the transfers' counters), the buffers, the sums the SparseCores leave,
  and what the handshakes of the SparseCore call carry.
-/
module

public import proofs.«01_k».proof.Proof.ElementRun
public import Idealize.ShloMosaic.Lib.StableHlo.Run
public import Idealize.ShloMosaic.Lib.Pipeline.Kit

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions, read off its semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds live. -/
abbrev EH : Emb UH (MT nD τ sig (HIx 1) (Elt F) ℕ UU ℕ) := embL
/-- Where the pipelines' rounds live. -/
def EP : Emb UP (MT nD τ sig (HIx 1) (Elt F) ℕ UU ℕ) := (Emb.inl : Emb UP (UP × Counters)).trans (embR : Emb (UP × Counters) (MT nD τ sig (HIx 1) (Elt F) ℕ UU ℕ))

instance EP_landsIn : (EP (F := F)).LandsIn (upEmb : UEmb _ 𝕄) := by unfold EP; infer_instance

/-! ## The buffers -/

abbrev xLoc (d : Dev nD) : Loc nD τ sig := (SparseCore.T d).loc main_v1
abbrev sLoc (d : Dev nD) : Loc nD τ sig := (SparseCore.T d).loc main_v2

theorem sdiv : 32 ∣ S1024x128.size 0 := ⟨32, rfl⟩
/-- The thirty-two rows of block `w` of the SparseCores' result. -/
abbrev blkSet (w : Fin 32) : Finset S1024x128.Idx := (Rect.part (s := S1024x128) (a₀ := 0) sdiv w).set

/-- The block of subcore `i` of SparseCore `c`. -/
def blkOf (c : Fin 2) (i : Fin 16) : Fin 32 := ⟨2 * i.val + c.val, by omega⟩

variable [FloatOps F]

/-- What the SparseCores leave: row `b` is the sum of the thirty-two rows `32 b … 32 b + 31` of the flat input, added left to
    right. -/
def scSum (X : S131072x128.Idx → F .f32) : S1024x128.Idx → F .f32 :=
  fun i => rowSum (m := 131072) (n := 128) X (32 * (i 0).val) 31 (i 1).val

/-! ## What the handshakes carry -/

variable (X : Dev nD → S131072x128.Idx → F .f32)

/-- The share of the flat input SparseCore `c` reads at, and subcore `i`'s part of it. -/
abbrev cq (c : Fin 2) : PosShare TreeShare := Transfers.shareTok fullShare 2 c
abbrev tq (c : Fin 2) (i : Fin 16) : PosShare TreeShare := Transfers.shareTok (cq c) 16 i

/-- The flat input at a share. -/
abbrev xPts (d : Dev nD) (q : PosShare TreeShare) : sProp 𝕄 := xLoc d ↦{q} (show Buf (Elt F) (xLoc d) from X d)
/-- Block `w` of the result, at some contents, and at the sums. -/
abbrev blkAny (d : Dev nD) (w : Fin 32) : sProp 𝕄 := iprop(∃ f : Buf (Elt F) (sLoc d), sLoc d ↦[blkSet w]{fullShare} f)
abbrev blkDone (d : Dev nD) (w : Fin 32) : sProp 𝕄 := sLoc d ↦[blkSet w]{fullShare} (show Buf (Elt F) (sLoc d) from scSum (X d))

/-- The call takes, for each SparseCore, a share of the flat input and that core's sixteen blocks of the result; each task its
    part of the share and its block, which it brings back holding the sums. -/
def P : (K (F := F)).Pay (nD := nD) (Val := Elt F) (Name := ℕ) (U := UU) where
  st := fun q d c => match q with
    | 0 => iprop(xPts X d (cq (Fin.cast nCore_zero c)) ∗ bigSep Finset.univ fun i : Fin 16 => blkAny d (blkOf (Fin.cast nCore_zero c) i))
  dn := fun q d c => match q with | 0 => iprop(bigSep Finset.univ fun i : Fin 16 => blkDone X d (blkOf (Fin.cast nCore_zero c) i))
  go := fun q d c i => match q with
    | 0 => iprop(xPts X d (tq (Fin.cast nCore_zero c) (Fin.cast nSub_zero i)) ∗ blkAny d (blkOf (Fin.cast nCore_zero c) (Fin.cast nSub_zero i)))
  td := fun q d c i => match q with | 0 => iprop(blkDone X d (blkOf (Fin.cast nCore_zero c) (Fin.cast nSub_zero i)))
  x := fun _ _ => iprop(emp)

instance P_storable : (P X).IsStorable where
  st q d c := match q with
    | 0 => (inferInstance : BI.Storable (upEmb : UEmb _ 𝕄)
      iprop(xPts X d (cq (Fin.cast nCore_zero c)) ∗ bigSep Finset.univ fun i : Fin 16 => blkAny d (blkOf (Fin.cast nCore_zero c) i)))
  dn q d c := match q with
    | 0 => (inferInstance : BI.Storable (upEmb : UEmb _ 𝕄) iprop(bigSep Finset.univ fun i : Fin 16 => blkDone X d (blkOf (Fin.cast nCore_zero c) i)))
  go q d c i := match q with
    | 0 => (inferInstance : BI.Storable (upEmb : UEmb _ 𝕄)
      iprop(xPts X d (tq (Fin.cast nCore_zero c) (Fin.cast nSub_zero i)) ∗ blkAny d (blkOf (Fin.cast nCore_zero c) (Fin.cast nSub_zero i))))
  td q d c i := match q with
    | 0 => (inferInstance : BI.Storable (upEmb : UEmb _ 𝕄) iprop(blkDone X d (blkOf (Fin.cast nCore_zero c) (Fin.cast nSub_zero i))))

end Cert.Proof

end
-- ==== Proof.Bodies.lean ====
/-
  The two TensorCore bodies: each reads a block of rows, the weights and the bias whole and overwrites its block of the result by
  the payload of what it read.
-/
module

public import proofs.«01_k».proof.Proof.Setup
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Value
public import Idealize.ShloMosaic.Lib.Pipeline.FrameBody

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [∀ e, Nonempty (Elt F e)]

local notation "𝕄" => MT nD τ sig (HIx 1) (Elt F) ℕ UU ℕ

section Whole

variable {Λ : Labels} {defs : Defs nD τ sig (Elt F) Λ} {𝒱' : Variants} {bd : Option 𝒱'.V} {α : Type}
  {Q : α → sProp (MT nD τ sig (HIx 1) (Elt F) ℕ UU ℕ)} {cs : CoreSpace} {s : Shape} {e : EltTy}

/-- A load of the whole of a memref at the head of a program reads what it holds. -/
theorem wp_load_owned (c : Dev nD) (M : Memref sig .tc cs s e) {off : Fin s.rank → Nat} (h : off = fun _ => 0) (inb : ∀ a, off a + s.size a ≤ s.size a)
    {hl : M.view.LoadsAt (Rect.unit off s.size inb).toLoadRect} {X : s.Idx → Elt F e} {k : (s.Idx → Elt F e) → Prog (TpuEff nD τ sig (Elt F) Λ .tc) α} :
    (owns (c : Thread nD τ) M fullShare X : sProp 𝕄)
      ⊢ iprop((owns (c : Thread nD τ) M fullShare X -∗ wp frame (wpE defs 𝒱' (c : Thread nD τ) bd) Set.univ (k X) Q)
        -∗ wp frame (wpE defs 𝒱' (c : Thread nD τ) bd) Set.univ (.op (.load M (Rect.unit off s.size inb).toLoadRect hl) k) Q) := by
  unfold owns
  iintro ⟨%f, %hf, H⟩ Hk
  iapply (wp_load (defs := defs) (Q := Q) 𝒱' (c : Thread nD τ) bd Set.univ (m := M) (r := (Rect.unit off s.size inb).toLoadRect) (hl := hl) (k := k) (f := f)
    (q := fullShare) (S := M.view.set) (M.view.setOn_subset_set _)) $$ [H]
  · iexact H
  iintro H
  rw [show M.view.readAt (Elt F) (Rect.unit off s.size inb).toLoadRect f = X from by rw [View.readAt_eq_ld, View.ld_unit_zero h, hf]]
  iapply Hk
  iexists f; isplitr; · ipureintro; exact hf
  iexact H

/-- A store over the whole of a memref at the head of a program leaves the vector stored. -/
theorem wp_store_owned (c : Dev nD) (M : Memref sig .tc cs s e) {off : Fin s.rank → Nat} (h : off = fun _ => 0) (inb : ∀ a, off a + s.size a ≤ s.size a)
    {w : s.Idx → Elt F e} {hx : (M.access (Rect.unit off s.size inb)).Stores Finset.univ}
    {hm : (Finset.univ : Finset (Rect.unit off s.size inb).shape.Idx) = Finset.univ ∨ ∀ a, (Rect.unit off s.size inb).stride a = 1}
    {X : s.Idx → Elt F e} {k : PUnit → Prog (TpuEff nD τ sig (Elt F) Λ .tc) α} :
    (owns (c : Thread nD τ) M fullShare X : sProp 𝕄)
      ⊢ iprop((owns (c : Thread nD τ) M fullShare w -∗ wp frame (wpE defs 𝒱' (c : Thread nD τ) bd) Set.univ (k ⟨⟩) Q)
        -∗ wp frame (wpE defs 𝒱' (c : Thread nD τ) bd) Set.univ (.op (.store M (Rect.unit off s.size inb) w Finset.univ hx hm) k) Q) := by
  unfold owns
  iintro ⟨%f, %hf, H⟩ Hk
  iapply (wp_store_writes₀ (defs := defs) (Q := Q) 𝒱' (c : Thread nD τ) bd Set.univ (m := M) (r := Rect.unit off s.size inb) (w := w) (hx := hx) (hm := hm) (k := k) (f := f)
    (S := M.view.set) (View.set_slice_subset _ _)) $$ [H]
  · iexact H
  iintro H
  iapply Hk
  iexists _; isplitr; swap; · iexact H
  ipureintro
  rw [View.read_writes_eq_canon _ _ _ fun y => ⟨_, List.mem_singleton_self _, View.mem_set_unit_zero h inb y⟩, View.canon_unit_zero h]

end Whole

variable {Q : PUnit → sProp (MT nD τ sig (HIx 1) (Elt F) ℕ UU ℕ)}

theorem zero2 : (![0, 0] : Fin 2 → ℕ) = fun _ => 0 := by decide
theorem zero3 : (![0, 0, 0] : Fin 3 → ℕ) = fun _ => 0 := by decide

/-- The first body: the block of the result ends at the payload of the three blocks read. -/
theorem wp_body1 (c : Dev nD) (i : grid1.Coords) (M0 : Memref sig .tc .vmem S512x32x128 .f32) (h0 : M0.IsWhole) (M1 : Memref sig .tc .vmem S128x128 .f32) (h1 : M1.IsWhole)
    (M2 : Memref sig .tc .vmem S1x128 .f32) (h2 : M2.IsWhole) (M3 : Memref sig .tc .vmem S512x128 .f32) (h3 : M3.IsWhole)
    (X : Vec F S512x32x128 .f32) (W : Vec F S128x128 .f32) (B : Vec F S1x128 .f32) (Y : Vec F S512x128 .f32) :
    iprop(owns (c : Thread nD τ) M0 fullShare X ∗ owns (c : Thread nD τ) M1 fullShare W ∗ owns (c : Thread nD τ) M2 fullShare B ∗ owns (c : Thread nD τ) M3 fullShare Y
        ∗ (iprop(owns (c : Thread nD τ) M0 fullShare X ∗ owns (c : Thread nD τ) M1 fullShare W ∗ owns (c : Thread nD τ) M2 fullShare B
            ∗ owns (c : Thread nD τ) M3 fullShare (k1_pay1 X W B)) -∗ Q ⟨⟩))
      ⊢ wp frame (wpE (defs₀ (F := F)) 𝒱₀ (c : Thread nD τ) none) Set.univ (cc1_body i M0 h0 M1 h1 M2 h2 M3 h3) Q := by
  rw [cc1_body_eq_skeleton]
  unfold cc1_body_skel
  iintro ⟨H0, H1, H2, H3, Hk⟩
  iapply (wp_load_owned (defs := defs₀ (F := F)) (𝒱' := 𝒱₀) (Q := Q) c M0 zero3 _ (X := X)) $$ H0; iintro H0
  iapply (wp_load_owned (defs := defs₀ (F := F)) (𝒱' := 𝒱₀) (Q := Q) c M1 zero2 _ (X := W)) $$ H1; iintro H1
  iapply (wp_load_owned (defs := defs₀ (F := F)) (𝒱' := 𝒱₀) (Q := Q) c M2 zero2 _ (X := B)) $$ H2; iintro H2
  iapply (wp_load_owned (defs := defs₀ (F := F)) (𝒱' := 𝒱₀) (Q := Q) c M3 zero2 _ (X := Y)) $$ H3; iintro H3
  iapply (wp_store_owned (defs := defs₀ (F := F)) (𝒱' := 𝒱₀) (Q := Q) c M3 zero2 _ (X := Y)) $$ H3; iintro H3
  iapply (le_wp_ret frame (wpE (defs₀ (F := F)) 𝒱₀ (c : Thread nD τ) none) Set.univ _ _)
  iapply Hk
  isplitl [H0]; · iexact H0
  isplitl [H1]; · iexact H1
  isplitl [H2]; · iexact H2
  iexact H3

/-- The second body, on the SparseCores' rows. The array passed beside its windows is not touched. -/
theorem wp_body2 (c : Dev nD) (i : grid2.Coords) (M0 : Memref sig .tc .vmem S1024x128 .f32) (h0 : M0.IsWhole) (M1 : Memref sig .tc .vmem S128x128 .f32) (h1 : M1.IsWhole)
    (M2 : Memref sig .tc .vmem S1x128 .f32) (h2 : M2.IsWhole) (M3 : Memref sig .tc .vmem S1024x128 .f32) (h3 : M3.IsWhole)
    (X : Vec F S1024x128 .f32) (W : Vec F S128x128 .f32) (B : Vec F S1x128 .f32) (Y : Vec F S1024x128 .f32) :
    iprop(owns (c : Thread nD τ) M0 fullShare X ∗ owns (c : Thread nD τ) M1 fullShare W ∗ owns (c : Thread nD τ) M2 fullShare B ∗ owns (c : Thread nD τ) M3 fullShare Y
        ∗ (iprop(owns (c : Thread nD τ) M0 fullShare X ∗ owns (c : Thread nD τ) M1 fullShare W ∗ owns (c : Thread nD τ) M2 fullShare B
            ∗ owns (c : Thread nD τ) M3 fullShare (k2_pay1 X W B)) -∗ Q ⟨⟩))
      ⊢ wp frame (wpE (defs₀ (F := F)) 𝒱₀ (c : Thread nD τ) none) Set.univ
          (cc2_mm i M0 h0 M1 h1 M2 h2 (Memref.whole main_v3) (Memref.isWhole_whole _) M3 h3) Q := by
  rw [cc2_mm_eq_skeleton]
  unfold cc2_mm_skel
  iintro ⟨H0, H1, H2, H3, Hk⟩
  iapply (wp_load_owned (defs := defs₀ (F := F)) (𝒱' := 𝒱₀) (Q := Q) c M0 zero2 _ (X := X)) $$ H0; iintro H0
  iapply (wp_load_owned (defs := defs₀ (F := F)) (𝒱' := 𝒱₀) (Q := Q) c M1 zero2 _ (X := W)) $$ H1; iintro H1
  iapply (wp_load_owned (defs := defs₀ (F := F)) (𝒱' := 𝒱₀) (Q := Q) c M2 zero2 _ (X := B)) $$ H2; iintro H2
  iapply (wp_load_owned (defs := defs₀ (F := F)) (𝒱' := 𝒱₀) (Q := Q) c M3 zero2 _ (X := Y)) $$ H3; iintro H3
  iapply (wp_store_owned (defs := defs₀ (F := F)) (𝒱' := 𝒱₀) (Q := Q) c M3 zero2 _ (X := Y)) $$ H3; iintro H3
  iapply (le_wp_ret frame (wpE (defs₀ (F := F)) 𝒱₀ (c : Thread nD τ) none) Set.univ _ _)
  iapply Hk
  isplitl [H0]; · iexact H0
  isplitl [H1]; · iexact H1
  isplitl [H2]; · iexact H2
  iexact H3

end Cert.Proof

end
-- ==== Proof.Regions.lean ====
/-
  The two TensorCore calls as pipeline regions: what their windows' arrays hold on entry, the proof data, the bodies' obligations and the
  regions themselves, which keep the bound on what the core has waited for.
-/
module

public import proofs.«01_k».proof.Proof.Bodies
public import Idealize.ShloMosaic.Lib.Pipeline.RegionArrays

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [∀ e, Nonempty (Elt F e)]

local notation "𝕄" => MT nD τ sig (HIx 1) (Elt F) ℕ UU ℕ

/-- What the arrays of the two calls hold when the first of them (`y` what it writes over) and the second (`s` the SparseCores' sums, `z` what
    it writes over) begin. -/
structure Entry (F : FTy → Type) where
  x : Vec F S4096x32x128 .f32
  w : Vec F S128x128 .f32
  b : Vec F S1x128 .f32
  y : Vec F S4096x128 .f32
  s : Vec F S1024x128 .f32
  z : Vec F S4096x128 .f32

/-- The first call's arrays. -/
def arr1 (c : Dev nD) (E : Entry F) : (w : Fin cfg1.W) → Buf (Elt F) ((cfg1.win w).arr.view.loc (c : Thread nD τ))
  | ⟨0, _⟩ => E.x
  | ⟨1, _⟩ => E.w
  | ⟨2, _⟩ => E.b
  | ⟨3, _⟩ => E.y

/-- The second call's arrays. -/
def arr2 (c : Dev nD) (E : Entry F) : (w : Fin cfg2.W) → Buf (Elt F) ((cfg2.win w).arr.view.loc (c : Thread nD τ))
  | ⟨0, _⟩ => E.s
  | ⟨1, _⟩ => E.w
  | ⟨2, _⟩ => E.b
  | ⟨3, _⟩ => E.z

/-- A window's block at a point, read off its array. -/
abbrev blk1 (c : Dev nD) (E : Entry F) (w : Fin cfg1.W) (t : Fin cfg1.N) := ((cfg1.win w).blk t).view.read (Elt F) (arr1 c E w)

/-- The same of the second call. -/
abbrev blk2 (c : Dev nD) (E : Entry F) (w : Fin cfg2.W) (t : Fin cfg2.N) := ((cfg2.win w).blk t).view.read (Elt F) (arr2 c E w)

/-- The waits a TensorCore may have recorded once the SparseCore call has returned. -/
def waited (c : Dev nD) : Set (SemLoc sig × HIx 1) := {p | (K (F := F)).lev (T c, p.1) p.2 ≤ 8 * (SparseCore.Cfg.Blocks.fst (N := 1) (Q := 1) 1)}

/-- The first call's proof data. -/
def dat1 (c : Dev nD) (E : Entry F) : Dat τ (Elt F) (HIx 1) ℕ UU ℕ cfg1 c where
  A := arr1 c E
  after w t := match w with
    | ⟨0, _⟩ => blk1 c E 0 t
    | ⟨1, _⟩ => blk1 c E 1 t
    | ⟨2, _⟩ => blk1 c E 2 t
    | ⟨3, _⟩ => k1_pay1 (blk1 c E 0 t) (blk1 c E 1 t) (blk1 c E 2 t)
  Φ _ := Pipeline.scopedRest spec1 c
  q _ := fullShare
  owed _ := 0
  recorded _ := waited (F := F) c

/-- The second call's proof data. -/
def dat2 (c : Dev nD) (E : Entry F) : Dat τ (Elt F) (HIx 1) ℕ UU ℕ cfg2 c where
  A := arr2 c E
  after w t := match w with
    | ⟨0, _⟩ => blk2 c E 0 t
    | ⟨1, _⟩ => blk2 c E 1 t
    | ⟨2, _⟩ => blk2 c E 2 t
    | ⟨3, _⟩ => k2_pay1 (blk2 c E 0 t) (blk2 c E 1 t) (blk2 c E 2 t)
  Φ _ := Pipeline.scopedRest spec2 c
  q _ := fullShare
  owed _ := 0
  recorded _ := waited (F := F) c

theorem before1_0 (c : Dev nD) (E : Entry F) (t : Fin cfg1.N) (d) : (dat1 c E).before 0 t d = blk1 c E 0 t :=
  (Pipeline.Dat.before_in_eq_fetched (dat1 c E) 0 rfl (fun _ => rfl) (fun _ _ _ => rfl) (fun _ => rfl) t d)
theorem before1_1 (c : Dev nD) (E : Entry F) (t : Fin cfg1.N) (d) : (dat1 c E).before 1 t d = blk1 c E 1 t :=
  (Pipeline.Dat.before_in_eq_fetched (dat1 c E) 1 rfl (fun _ => rfl) (fun _ _ _ => rfl) (fun _ => rfl) t d)
theorem before1_2 (c : Dev nD) (E : Entry F) (t : Fin cfg1.N) (d) : (dat1 c E).before 2 t d = blk1 c E 2 t :=
  (Pipeline.Dat.before_in_eq_fetched (dat1 c E) 2 rfl (fun _ => rfl) (fun _ _ _ => rfl) (fun _ => rfl) t d)
theorem before2_0 (c : Dev nD) (E : Entry F) (t : Fin cfg2.N) (d) : (dat2 c E).before 0 t d = blk2 c E 0 t :=
  (Pipeline.Dat.before_in_eq_fetched (dat2 c E) 0 rfl (fun _ => rfl) (fun _ _ _ => rfl) (fun _ => rfl) t d)
theorem before2_1 (c : Dev nD) (E : Entry F) (t : Fin cfg2.N) (d) : (dat2 c E).before 1 t d = blk2 c E 1 t :=
  (Pipeline.Dat.before_in_eq_fetched (dat2 c E) 1 rfl (fun _ => rfl) (fun _ _ _ => rfl) (fun _ => rfl) t d)
theorem before2_2 (c : Dev nD) (E : Entry F) (t : Fin cfg2.N) (d) : (dat2 c E).before 2 t d = blk2 c E 2 t :=
  (Pipeline.Dat.before_in_eq_fetched (dat2 c E) 2 rfl (fun _ => rfl) (fun _ _ _ => rfl) (fun _ => rfl) t d)

/-- The first body's obligation at every point. -/
theorem obligation1 (c : Dev nD) (E : Entry F) : BodyObligation (dat1 c E) (defs₀ (F := F)) 𝒱₀ none Set.univ := fun t => by
  rw [bigSep_W1, bigSep_W1]
  rw [show (dat1 c E).owesAt none t.succ = (dat1 c E).owesAt none t.castSucc from rfl, show (dat1 c E).Φ t.succ = (dat1 c E).Φ t.castSucc from rfl]
  iintro ⟨HΦ, HO, ⟨%d0, H0⟩, ⟨%d1, H1⟩, ⟨%d2, H2⟩, ⟨%d3, H3⟩⟩
  rw [before1_0, before1_1, before1_2]
  iapply (wp_body1 c (grid1.coords t) _ (hstage1_0 (Fin.cast nbuf1_0 (cfg1.slots t 0))) _ (hstage1_1 (Fin.cast nbuf1_1 (cfg1.slots t 1))) _ (hstage1_2 (Fin.cast nbuf1_2 (cfg1.slots t 2))) _ (hstage1_3 (Fin.cast nbuf1_3 (cfg1.slots t 3)))
    (blk1 c E 0 t) (blk1 c E 1 t) (blk1 c E 2 t) _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-- The second body's. -/
theorem obligation2 (c : Dev nD) (E : Entry F) : BodyObligation (dat2 c E) (defs₀ (F := F)) 𝒱₀ none Set.univ := fun t => by
  rw [bigSep_W2, bigSep_W2]
  rw [show (dat2 c E).owesAt none t.succ = (dat2 c E).owesAt none t.castSucc from rfl, show (dat2 c E).Φ t.succ = (dat2 c E).Φ t.castSucc from rfl]
  iintro ⟨HΦ, HO, ⟨%d0, H0⟩, ⟨%d1, H1⟩, ⟨%d2, H2⟩, ⟨%d3, H3⟩⟩
  rw [before2_0, before2_1, before2_2]
  iapply (wp_body2 c (grid2.coords t) _ (hstage2_0 (Fin.cast nbuf2_0 (cfg2.slots t 0))) _ (hstage2_1 (Fin.cast nbuf2_1 (cfg2.slots t 1))) _ (hstage2_2 (Fin.cast nbuf2_2 (cfg2.slots t 2))) _ (hstage2_3 (Fin.cast nbuf2_3 (cfg2.slots t 3)))
    (blk2 c E 0 t) (blk2 c E 1 t) (blk2 c E 2 t) _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-- The proof data of both calls. -/
def dats (E : Dev nD → Entry F) : (p : Fin 2) → (c : Dev nD) → Dat τ (Elt F) (HIx 1) ℕ UU ℕ (cfgs p) c
  | ⟨0, _⟩ => fun c => dat1 c (E c)
  | ⟨1, _⟩ => fun c => dat2 c (E c)

/-- No pipeline prefetches a table. -/
abbrev adm : (p : Fin 2) → (pcfgs (F := F) p).Adm := fun p => (cfgs p).toPCfg_adm

/-- The core owes nothing, and what it has waited for is bounded. -/
def atEase (c : Dev nD) : sProp 𝕄 :=
  iprop(∃ W, ⌜(K (F := F)).WBelow (T c) W (8 * (SparseCore.Cfg.Blocks.fst (N := 1) (Q := 1) 1))⌝ ∗ owes (T c) (0 : CellTallies nD τ sig (HIx 1)) W)

set_option backward.isDefEq.respectTransparency.types false in
/-- A call as a region: its arrays go from the entry contents to the final ones, the core owing nothing. -/
def region (E : Dev nD → Entry F) (p : Fin 2) (kit : Pipeline.LaunchFacts (nD := nD) (τ := τ) cfgs p) (hK : (pcfgs (F := F) p).pre.K = 0)
    (hbody : ∀ c, BodyObligation (dats E p c) (defs₀ (F := F)) 𝒱₀ none Set.univ)
    (hΦ : ∀ c t, (dats E p c).Φ t = Pipeline.scopedRest (cfgs p).spec c) (howed : ∀ c t, (dats E p c).owed t = 0)
    (hrec : ∀ c t, (dats E p c).recorded t = waited (F := F) c) :
    Pipeline.RegionSeg (pcfgs (F := F)) adm (dats E) none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ _ _ p howed
  pre c := iprop((dats E p c).arrays ((dats E p c).arrAt · 0) ∗ atEase c)
  post c := iprop((dats E p c).arrays ((dats E p c).arrAt · (cfgs p).N) ∗ atEase c)
  X _ := BI.emp
  Y _ := BI.emp
  Z _ := BI.emp
  hentry c := by
    rw [Pipeline.ownSems0_none, Pipeline.prefHeld_of_none _ hK]
    unfold atEase Dat.owesAt Pipeline.owesWithin Dat.bound
    rw [howed c 0, hrec c]
    iintro ⟨⟨Ha, %W, %hW, HO⟩, -, -⟩
    imodintro
    isplitl [Ha]; · iexact Ha
    isplitr; · iempintro
    isplitl [HO]
    · iexists W; isplitr; · ipureintro; exact fun q hq => Or.inl (hW q hq)
      iexact HO
    isplitr <;> iempintro
  hin c := by
    rw [hΦ]
    iintro ⟨-, -, Hr⟩; iexact Hr
  hout c := by
    rw [Pipeline.ownSems0_none, hΦ]
    iintro Hr
    isplitr; · iempintro
    isplitr; · iempintro
    iexact Hr
  hexit c := by
    unfold atEase Dat.owesAt Pipeline.owesWithin Dat.bound
    rw [howed c, hrec c]
    iintro ⟨Ha, ⟨%W, %hW, HO⟩, -, -⟩
    imodintro
    isplitl [Ha]; · iexact Ha
    iexists W; isplitr
    · ipureintro
      intro q hq
      rcases hW hq with h | ⟨w, s, rfl⟩
      · exact h
      · exact Nat.zero_le _
    iexact HO

/-- The first call's region. -/
def region1 (E : Dev nD → Entry F) := region E 0 launch1 rfl (fun c => obligation1 c (E c)) (fun _ _ => rfl) (fun _ _ => rfl) fun _ _ => rfl
/-- The second call's region. -/
def region2 (E : Dev nD → Entry F) := region E 1 launch2 rfl (fun c => obligation2 c (E c)) (fun _ _ => rfl) (fun _ _ => rfl) fun _ _ => rfl

end Cert.Proof

end
-- ==== Proof.Final.lean ====
/-
  What the two TensorCore calls leave in their results: each row block at the payload of the matching rows, every other row as it was.
-/
module

public import proofs.«01_k».proof.Proof.Regions
public import Idealize.ShloMosaic.Lib.Pointwise.Index

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.ShloMosaic.Pipeline (Dat Cfg Window BodyObligation)

variable {F : FTy → Type} [FloatOps F] [∀ e, Nonempty (Elt F e)]

/-- The `k`-th block of 512 rows of `x`. -/
def xRows (x : Vec F S4096x32x128 .f32) (k : Fin 8) : Vec F S512x32x128 .f32 :=
  fun j => x (ix3 (⟨512 * k.val + (j 0).val, by have := (j 0).isLt; have : (j 0).val < 512 := this; have := k.isLt; omega⟩ : Fin 4096) (j 1 : Fin 32) (j 2 : Fin 128))

/-- The first call's payload at every row. -/
def full1 (E : Entry F) : Vec F S4096x128 .f32 :=
  fun i => k1_pay1 (xRows E.x ⟨(i 0).val / 512, by have := (i 0).isLt; have : (i 0).val < 4096 := this; omega⟩) E.w E.b
    (ix2 (⟨(i 0).val % 512, Nat.mod_lt _ (by decide)⟩ : Fin 512) (i 1 : Fin 128))

/-- The second call's payload, its rows repeated down the array. -/
def full2 (E : Entry F) : Vec F S4096x128 .f32 :=
  fun i => k2_pay1 E.s E.w E.b (ix2 (⟨(i 0).val % 1024, Nat.mod_lt _ (by decide)⟩ : Fin 1024) (i 1 : Fin 128))

/-- What the first call leaves in its result. -/
def out1 (E : Entry F) : Vec F S4096x128 .f32 := fun i => if 1024 ≤ (i 0).val then full1 E i else E.y i

/-- What the second call leaves in its result. -/
def out2 (E : Entry F) : Vec F S4096x128 .f32 := fun i => if (i 0).val < 1024 then full2 E i else E.z i

theorem index1_0 : ∀ t : Fin grid1.N, win1_0.index t 0 = t.val + 2 ∧ win1_0.index t 1 = 0 ∧ win1_0.index t 2 = 0 := by decide +kernel
theorem index1_1 : ∀ t : Fin grid1.N, win1_1.index t 0 = 0 ∧ win1_1.index t 1 = 0 := by decide +kernel
theorem index1_2 : ∀ t : Fin grid1.N, win1_2.index t 0 = 0 ∧ win1_2.index t 1 = 0 := by decide +kernel
theorem index1_3 : ∀ t : Fin grid1.N, win1_3.index t 0 = t.val + 2 ∧ win1_3.index t 1 = 0 := by decide +kernel
theorem index2_0 : ∀ t : Fin grid2.N, win2_0.index t 0 = 0 ∧ win2_0.index t 1 = 0 := by decide +kernel
theorem index2_1 : ∀ t : Fin grid2.N, win2_1.index t 0 = 0 ∧ win2_1.index t 1 = 0 := by decide +kernel
theorem index2_2 : ∀ t : Fin grid2.N, win2_2.index t 0 = 0 ∧ win2_2.index t 1 = 0 := by decide +kernel
theorem index2_3 : ∀ t : Fin grid2.N, win2_3.index t 0 = 0 ∧ win2_3.index t 1 = 0 := by decide +kernel

theorem lt_N1 (t : Fin cfg1.N) : t.val < 6 := lt_of_lt_of_eq t.isLt N_1

theorem blk1_0 (c : Dev nD) (E : Entry F) (t : Fin cfg1.N) : blk1 c E 0 t = xRows E.x ⟨t.val + 2, by have := lt_N1 t; omega⟩ := by
  obtain ⟨h0, h1, h2⟩ := index1_0 t
  funext j
  refine congrArg E.x (funext fun a => Fin.ext ?_)
  match a with
  | ⟨0, _⟩ => exact (win1_0.rect_emb_val t j 0).trans (by rw [h0]; show (t.val + 2) * 512 + (j 0).val = 512 * (t.val + 2) + (j 0).val; omega)
  | ⟨1, _⟩ => exact win1_0.rect_emb_val_of_index_zero t 1 h1 j
  | ⟨2, _⟩ => exact win1_0.rect_emb_val_of_index_zero t 2 h2 j

theorem blk1_1 (c : Dev nD) (E : Entry F) (t : Fin cfg1.N) : blk1 c E 1 t = E.w := by
  obtain ⟨h0, h1⟩ := index1_1 t
  funext j
  refine congrArg E.w (funext fun a => Fin.ext ?_)
  match a with
  | ⟨0, _⟩ => exact win1_1.rect_emb_val_of_index_zero t 0 h0 j
  | ⟨1, _⟩ => exact win1_1.rect_emb_val_of_index_zero t 1 h1 j

theorem blk1_2 (c : Dev nD) (E : Entry F) (t : Fin cfg1.N) : blk1 c E 2 t = E.b := by
  obtain ⟨h0, h1⟩ := index1_2 t
  funext j
  refine congrArg E.b (funext fun a => Fin.ext ?_)
  match a with
  | ⟨0, _⟩ => exact win1_2.rect_emb_val_of_index_zero t 0 h0 j
  | ⟨1, _⟩ => exact win1_2.rect_emb_val_of_index_zero t 1 h1 j

theorem blk2_0 (c : Dev nD) (E : Entry F) (t : Fin cfg2.N) : blk2 c E 0 t = E.s := by
  obtain ⟨h0, h1⟩ := index2_0 t
  funext j
  refine congrArg E.s (funext fun a => Fin.ext ?_)
  match a with
  | ⟨0, _⟩ => exact win2_0.rect_emb_val_of_index_zero t 0 h0 j
  | ⟨1, _⟩ => exact win2_0.rect_emb_val_of_index_zero t 1 h1 j

theorem blk2_1 (c : Dev nD) (E : Entry F) (t : Fin cfg2.N) : blk2 c E 1 t = E.w := by
  obtain ⟨h0, h1⟩ := index2_1 t
  funext j
  refine congrArg E.w (funext fun a => Fin.ext ?_)
  match a with
  | ⟨0, _⟩ => exact win2_1.rect_emb_val_of_index_zero t 0 h0 j
  | ⟨1, _⟩ => exact win2_1.rect_emb_val_of_index_zero t 1 h1 j

theorem blk2_2 (c : Dev nD) (E : Entry F) (t : Fin cfg2.N) : blk2 c E 2 t = E.b := by
  obtain ⟨h0, h1⟩ := index2_2 t
  funext j
  refine congrArg E.b (funext fun a => Fin.ext ?_)
  match a with
  | ⟨0, _⟩ => exact win2_2.rect_emb_val_of_index_zero t 0 h0 j
  | ⟨1, _⟩ => exact win2_2.rect_emb_val_of_index_zero t 1 h1 j

/-- Where the first call's result block sits. -/
theorem emb1_3 (t : Fin cfg1.N) (y : S512x128.Idx) :
    ((win1_3.rect t).emb y 0).val = 512 * (t.val + 2) + (y 0).val ∧ ((win1_3.rect t).emb y 1).val = (y 1).val :=
  ⟨(win1_3.rect_emb_val t y 0).trans (by rw [(index1_3 t).1]; show (t.val + 2) * 512 + (y 0).val = _; omega),
    win1_3.rect_emb_val_of_index_zero t 1 (index1_3 t).2 y⟩

theorem emb2_3 (t : Fin cfg2.N) (y : S1024x128.Idx) :
    ((win2_3.rect t).emb y 0).val = (y 0).val ∧ ((win2_3.rect t).emb y 1).val = (y 1).val :=
  ⟨win2_3.rect_emb_val_of_index_zero t 0 (index2_3 t).1 y, win2_3.rect_emb_val_of_index_zero t 1 (index2_3 t).2 y⟩

/-- `full1` read at a row of block `k`. -/
theorem full1_apply (E : Entry F) (k : Fin 8) (y : S512x128.Idx) (i : S4096x128.Idx) (h0 : (i 0).val = 512 * k.val + (y 0).val) (h1 : (i 1).val = (y 1).val) :
    full1 E i = k1_pay1 (xRows E.x k) E.w E.b y := by
  have hy : (y 0).val < 512 := (y 0).isLt
  have hk : ∀ h, (⟨(i 0).val / 512, h⟩ : Fin 8) = k := fun h => Fin.ext (by show (i 0).val / 512 = k.val; omega)
  unfold full1
  rw [hk]
  refine congrArg _ (funext fun a => Fin.ext ?_)
  match a with
  | ⟨0, _⟩ => show (i 0).val % 512 = (y 0).val; omega
  | ⟨1, _⟩ => exact h1

/-- `full2` read at one of the first rows. -/
theorem full2_apply (E : Entry F) (y : S1024x128.Idx) (i : S4096x128.Idx) (h0 : (i 0).val = (y 0).val) (h1 : (i 1).val = (y 1).val) :
    full2 E i = k2_pay1 E.s E.w E.b y := by
  have hy : (y 0).val < 1024 := (y 0).isLt
  unfold full2
  refine congrArg _ (funext fun a => Fin.ext ?_)
  match a with
  | ⟨0, _⟩ => show (i 0).val % 1024 = (y 0).val; omega
  | ⟨1, _⟩ => exact h1

/-- The first call's result after its last block. -/
theorem final1 (c : Dev nD) (E : Entry F) : (dat1 c E).arrAt 3 cfg1.N = out1 E := by
  funext i
  refine ((dat1 c E).arrAt_eq_piecewise 3 (full1 E) (fun t _ => ?_) i).trans ?_
  · funext y
    obtain ⟨h0, h1⟩ := emb1_3 t y
    refine Eq.trans ?_ (full1_apply E ⟨t.val + 2, by have := lt_N1 t; omega⟩ y ((win1_3.rect t).emb y) h0 h1).symm
    show k1_pay1 (blk1 c E 0 t) (blk1 c E 1 t) (blk1 c E 2 t) y = _
    rw [blk1_0, blk1_1, blk1_2]
  · unfold out1
    by_cases hi : 1024 ≤ (i 0).val
    · have hlt : (i 0).val < 4096 := (i 0).isLt
      rw [if_pos hi, if_pos]
      let t : Fin cfg1.N := ⟨(i 0).val / 512 - 2, by rw [show cfg1.N = 6 from N_1]; omega⟩
      refine ⟨t, flush1_3 t, ?_⟩
      let y : S512x128.Idx := ix2 (⟨(i 0).val % 512, Nat.mod_lt _ (by decide)⟩ : Fin 512) (i 1 : Fin 128)
      obtain ⟨h0, h1⟩ := emb1_3 t y
      have e : (win1_3.rect t).emb y = i := funext fun a => Fin.ext (by
        match a with
        | ⟨0, _⟩ => exact h0.trans (by show 512 * ((i 0).val / 512 - 2 + 2) + (i 0).val % 512 = (i 0).val; omega)
        | ⟨1, _⟩ => exact h1)
      have := ((cfg1.win 3).blk t).view.emb_mem_set y
      exact (congrArg (· ∈ ((cfg1.win 3).blk t).view.set) e).mp this
    · rw [if_neg hi, if_neg]
      · rfl
      rintro ⟨t, -, hm⟩
      obtain ⟨y, e⟩ := View.exists_emb_of_mem_set ((cfg1.win 3).blk t).view hm
      have := (emb1_3 t y).1
      have e' : ((win1_3.rect t).emb y 0).val = (i 0).val := congrArg (fun j : S4096x128.Idx => (j 0).val) e
      omega

/-- The second call's result after its one block. -/
theorem final2 (c : Dev nD) (E : Entry F) : (dat2 c E).arrAt 3 cfg2.N = out2 E := by
  funext i
  refine ((dat2 c E).arrAt_eq_piecewise 3 (full2 E) (fun t _ => ?_) i).trans ?_
  · funext y
    obtain ⟨h0, h1⟩ := emb2_3 t y
    refine Eq.trans ?_ (full2_apply E y ((win2_3.rect t).emb y) h0 h1).symm
    show k2_pay1 (blk2 c E 0 t) (blk2 c E 1 t) (blk2 c E 2 t) y = _
    rw [blk2_0, blk2_1, blk2_2]
  · unfold out2
    by_cases hi : (i 0).val < 1024
    · rw [if_pos hi, if_pos]
      refine ⟨t2_0, flush2_3 t2_0, ?_⟩
      let y : S1024x128.Idx := ix2 (⟨(i 0).val, hi⟩ : Fin 1024) (i 1 : Fin 128)
      obtain ⟨h0, h1⟩ := emb2_3 t2_0 y
      have e : (win2_3.rect t2_0).emb y = i := funext fun a => Fin.ext (by
        match a with
        | ⟨0, _⟩ => exact h0
        | ⟨1, _⟩ => exact h1)
      have := ((cfg2.win 3).blk t2_0).view.emb_mem_set y
      exact (congrArg (· ∈ ((cfg2.win 3).blk t2_0).view.set) e).mp this
    · rw [if_neg hi, if_neg]
      · rfl
      rintro ⟨t, -, hm⟩
      obtain ⟨y, e⟩ := View.exists_emb_of_mem_set ((cfg2.win 3).blk t).view hm
      have := (emb2_3 t y).1
      have e' : ((win2_3.rect t).emb y 0).val = (i 0).val := congrArg (fun j : S4096x128.Idx => (j 0).val) e
      have hy : (y 0).val < 1024 := (y 0).isLt
      omega

end Cert.Proof

end
-- ==== Proof.Tile.lean ====
/-
  One SparseCore task: two fetch buffers kept in flight over four blocks of 256 rows of the flat input, each block's eight
  elements reduced into the block of results, and that block written out. The task leaves its thirty-two rows of the result at
  the sums `scSum` names.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "xV" => (Memref.whole Cert.KernelIdeal.main_v1_scv : Memref Cert.KernelIdeal.sig Kind.scVector Space.hbm Cert.KernelIdeal.S131072x128 EltTy.f32)
local notation "oV" => (Memref.whole Cert.KernelIdeal.main_v2_scv : Memref Cert.KernelIdeal.sig Kind.scVector Space.hbm Cert.KernelIdeal.S1024x128 EltTy.f32)
local notation "aV" => (Memref.whole Cert.KernelIdeal.cc0_scratch0 : Memref Cert.KernelIdeal.sig Kind.scVector Space.vmem Cert.KernelIdeal.S256x128 EltTy.f32)
local notation "bV" => (Memref.whole Cert.KernelIdeal.cc0_scratch1 : Memref Cert.KernelIdeal.sig Kind.scVector Space.vmem Cert.KernelIdeal.S256x128 EltTy.f32)
local notation "eV" => (Memref.whole Cert.KernelIdeal.cc0_scratch2 : Memref Cert.KernelIdeal.sig Kind.scVector Space.vmem Cert.KernelIdeal.S256x128 EltTy.f32)
local notation "gV" => (Memref.whole Cert.KernelIdeal.cc0_scratch3 : Memref Cert.KernelIdeal.sig Kind.scVector Space.vmem Cert.KernelIdeal.S32x128 EltTy.f32)

/-! ## The loops' small facts -/

theorem trips1 : k0_t1_loop.trips = 2 := by decide
theorem trips2 : k0_t2_loop.trips = 8 := by decide
theorem trips3 : k0_t3_loop.trips = 8 := by decide
/-- A buffer is fetched into again in the first trip only. -/
theorem refetch1 : ∀ t : Fin k0_t1_loop.trips, k0_cond1 t = 1#1 ↔ t.val = 0 := by decide
theorem refetch2 : ∀ t : Fin k0_t1_loop.trips, k0_cond2 t = 1#1 ↔ t.val = 0 := by decide

variable [FloatOps F]

/-! ## Values -/

/-- Rows `ρ … ρ + 255` of the flat input. -/
def rowsFrom (X : S131072x128.Idx → F .f32) (ρ : ℕ) : S256x128.Idx → F .f32 :=
  fun i => at2 (m := 131072) (n := 128) X (ρ + (i 0).val) (i 1).val

/-- Equal terms have equal sums. -/
theorem foldUp_congr {g g' : ℕ → F .f32} : ∀ n : ℕ, (∀ p ≤ n, g p = g' p) → foldUp g n = foldUp g' n
  | 0, h => h 0 (Nat.le_refl 0)
  | n + 1, h => by
    unfold foldUp
    rw [foldUp_congr n (fun p hp => h p (Nat.le_succ_of_le hp)), h (n + 1) (Nat.le_refl _)]

/-- A sum of rows of a fetched block is the sum of those rows of the flat input. -/
theorem rowSum_rowsFrom (X : S131072x128.Idx → F .f32) (ρ₀ ρ c : ℕ) (hρ : ρ + 31 < 256) (hc : c < 128) :
    rowSum (m := 256) (n := 128) (rowsFrom X ρ₀) ρ 31 c = rowSum (m := 131072) (n := 128) X (ρ₀ + ρ) 31 c := by
  refine foldUp_congr 31 fun p hp => ?_
  show at2 (m := 131072) (n := 128) X (ρ₀ + (ρ + p) % 256) (c % 128) = _
  rw [Nat.mod_eq_of_lt (show ρ + p < 256 by omega), Nat.mod_eq_of_lt hc, Nat.add_assoc]

section Tile

variable (X : Dev nD → S131072x128.Idx → F .f32) (d : Dev nD) (L : grid0.Coords)

abbrev cV : Fin τ.nSC := (L 0).castLE hcore0
abbrev jV : Fin τ.nSub := (L 1).castLE hsub0
abbrev thr : Thread nD τ := V d (cV L) (jV L)

/-- The first row of the flat input the task reads. -/
def base : ℕ := 2048 * (L 1).val + 1024 * (L 0).val

/-- A fetch buffer holding block `k` of the task's rows. -/
abbrev held (A : Memref sig .scVector .vmem S256x128 .f32) (k : ℕ) : sProp 𝕄 :=
  iprop(∃ f, ⌜A.view.read (Elt F) f = rowsFrom (X d) (base L + 256 * k)⌝ ∗ (A.view.loc (thr d L) ↦{fullShare} f))

/-- A fetch of block `k` on its way. -/
def inFlight (A : Memref sig .scVector .vmem S256x128 .f32) (sm : DmaSem sig) (q : PosShare TreeShare) (k : ℕ) : sProp 𝕄 :=
  iprop(∃ S : Finset (Idx (xLoc d)),
    Transfers.Flight countersEmb (thr d L) (.dma sm) (default : HIx 1) A.view.dmaCredit
      iprop(held X d L A k ∗ (xLoc d ↦[S]{q} (show Buf (Elt F) (xLoc d) from X d)))
    ∗ (xLoc d ↦[Finset.univ \ S]{q} (show Buf (Elt F) (xLoc d) from X d)))

/-- A fetch buffer between fetches. -/
abbrev idle (A : Memref sig .scVector .vmem S256x128 .f32) (sm : DmaSem sig) (q : PosShare TreeShare) : sProp 𝕄 :=
  iprop((∃ f, A.view.loc (thr d L) ↦{fullShare} f) ∗ xPts X d q ∗ semVal (thr d L, .dma sm) 0)

/-- What reading a slice of the flat input at rows `ρ …` gives. -/
theorem read_chunk {o : Fin 2 → ℕ} (h : ∀ a, o a + S256x128.size a ≤ S131072x128.size a) {ρ : ℕ} (ho : o = ![ρ, 0]) (f : S131072x128.Idx → F .f32) :
    (((xV).slice (Rect.unit (s := S131072x128) o S256x128.size h) (fun _ => rfl)).view.read (Elt F) f : S256x128.Idx → F .f32) = rowsFrom f ρ := by
  subst ho
  funext i
  refine at2_eq (m := 131072) (n := 128) f _ ?_ ?_
  · show ρ + 1 * (i 0).val = _; omega
  · show 0 + 1 * (i 1).val = _; omega

variable {α : Type} {kk : PUnit → Prog (TpuEff nD τ sig (Elt F) Λ₀ (.scVector (cV L) (jV L))) α} {Q : α → sProp (MT nD τ sig (HIx 1) (Elt F) ℕ UU ℕ)}

/-- Starting a fetch. -/
theorem wp_fetch (A : Memref sig .scVector .vmem S256x128 .f32) (sm : DmaSem sig) (q : PosShare TreeShare) (k : ℕ)
    {o : Fin 2 → ℕ} (h : ∀ a, o a + S256x128.size a ≤ S131072x128.size a) (ho : o = ![base L + 256 * k, 0])
    {hsrc : ((xV).slice (Rect.unit (s := S131072x128) o S256x128.size h) (fun _ => rfl)).view.WordExact} {hdst : A.view.WordExact}
    {hsem : DmaTarget.Typed (nD := nD) (τ := τ) .hbm (.dma sm) (.here (p := .scVector (cV L) (jV L)) A)} :
    idle X d L A sm q ⊢ iprop((inFlight X d L A sm q k -∗ wp frame (wpE (defs₀ (F := F)) 𝒱₀ (thr d L) none) Set.univ (kk ⟨⟩) Q)
      -∗ wp frame (wpE (defs₀ (F := F)) 𝒱₀ (thr d L) none) Set.univ
        (.op (.enqueueDmaAs ((xV).slice (Rect.unit (s := S131072x128) o S256x128.size h) (fun _ => rfl)) (.here A) .same (.dma sm) hsrc hdst hsem) kk) Q) := by
  iintro ⟨⟨%f, Hf⟩, Hx, Hs⟩ Hk
  ihave Hx2 := (pointsTo_split_subset (q := q) (f := (show Buf (Elt F) (xLoc d) from X d)) (S := Finset.univ)
    (Finset.subset_univ ((xV).slice (Rect.unit (s := S131072x128) o S256x128.size h) (fun _ => rfl)).view.set)).1 $$ Hx
  icases Hx2 with ⟨Hx, Hr⟩
  iapply (Transfers.wp_dmaLocal countersEmb 𝒱₀ (thr d L) none (default : HIx 1) A.view.dmaCredit rfl
    (View.dmaCredit_pos _ (by decide)) (Finset.subset_univ _)) $$ [Hx Hf Hs]
  · isplitl [Hx]; · iexact Hx
    isplitl [Hf]; · iexact Hf
    iexact Hs
  iintro Hfl
  iapply Hk
  unfold inFlight
  iexists _
  isplitl [Hfl]; swap; · iexact Hr
  iapply (Transfers.Flight_mono countersEmb (thr d L) ?_) $$ Hfl
  iintro ⟨Ha, Hx⟩
  isplitl [Ha]; swap; · iexact Hx
  iexists _
  isplitr; swap; · iexact Ha
  ipureintro
  exact (View.read_write_univ _ _).trans (read_chunk h ho (X d))

/-- Waiting for a fetch. -/
theorem wp_landed (A : Memref sig .scVector .vmem S256x128 .f32) (sm : DmaSem sig) (q : PosShare TreeShare) (k : ℕ)
    {src : Memref sig .scVector .hbm S256x128 .f32} {hsrc : src.view.WordExact} {hdst : A.view.WordExact} {O : CellTallies nD τ sig (HIx 1)} {W : Waits sig (HIx 1)} :
    iprop(inFlight X d L A sm q k ∗ owes (thr d L) O W ∗ MayWait (thr d L) (.dma sm) (default : HIx 1) O)
      ⊢ iprop((held X d L A k -∗ xPts X d q -∗ semVal (thr d L, .dma sm) 0 -∗ owes (thr d L) O (insert (SemLoc.dma sm, default) W)
          -∗ wp frame (wpE (defs₀ (F := F)) 𝒱₀ (thr d L) none) Set.univ (kk ⟨⟩) Q)
        -∗ wp frame (wpE (defs₀ (F := F)) 𝒱₀ (thr d L) none) Set.univ (.op (.waitDma2 sm src A hsrc hdst) kk) Q) := by
  unfold inFlight
  iintro ⟨⟨%S, Hfl, Hr⟩, HO, Hmw⟩ Hk
  iapply (Transfers.wp_waitLocalO countersEmb 𝒱₀ (thr d L) none (default : HIx 1) rfl) $$ [Hfl HO Hmw]
  · isplitl [Hfl]; · iexact Hfl
    isplitl [HO] <;> iassumption
  iintro ⟨⟨Ha, Hx⟩, Hs, HO⟩
  iapply Hk $$ [Ha] [Hx Hr] [Hs] [HO]
  · iexact Ha
  · iapply (pointsTo_split_subset (q := q) (f := (show Buf (Elt F) (xLoc d) from X d)) (S := Finset.univ) (Finset.subset_univ S)).2
    isplitl [Hx] <;> iassumption
  · iexact Hs
  · iexact HO

/-! ## The element loops -/

/-- The block of results with its first `n` rows at the sums. -/
def stage (n : ℕ) : sProp 𝕄 :=
  iprop(∃ g, ⌜∀ i : S32x128.Idx, (i 0).val < n → (gV).view.read (Elt F) g i = rowSum (m := 131072) (n := 128) (X d) (base L + 32 * (i 0).val) 31 (i 1).val⌝
    ∗ ((gV).view.loc (thr d L) ↦{fullShare} g))

/-- One more row. -/
theorem row_step {n : ℕ} {Y Y' : S32x128.Idx → F .f32} {k ρ : ℕ} (hρ : ρ + 31 < 256) (hn : 256 * k + ρ = 32 * n)
    (hY : ∀ i : S32x128.Idx, (i 0).val < n → Y i = rowSum (m := 131072) (n := 128) (X d) (base L + 32 * (i 0).val) 31 (i 1).val)
    (h : Y' = putRow Y n (rowsFrom (X d) (base L + 256 * k)) ρ) :
    ∀ i : S32x128.Idx, (i 0).val < n + 1 → Y' i = rowSum (m := 131072) (n := 128) (X d) (base L + 32 * (i 0).val) 31 (i 1).val := by
  subst h
  intro i hi
  have h1 : (i 1).val < 128 := (i 1).isLt
  show (if (i 0).val = n ∧ 0 ≤ (i 1).val ∧ (i 1).val < 128 then rowSum (m := 256) (n := 128) (rowsFrom (X d) (base L + 256 * k)) ρ 31 (i 1).val else Y i) = _
  split_ifs with hc
  · rw [rowSum_rowsFrom _ _ _ _ hρ h1, hc.1, ← hn, Nat.add_assoc]
  · exact hY i (by omega)

variable (v2 c0 c1 w : BitVec 32)

/-- The first buffer's eight elements. -/
theorem wp_loop2 (t1 : Fin k0_t1_loop.trips) {kl : Unit → Prog (TpuEff nD τ sig (Elt F) Λ₀ (.scVector (cV L) (jV L))) α} :
    iprop(held X d L aV (2 * t1.val) ∗ stage X d L (16 * t1.val))
      ⊢ iprop((held X d L aV (2 * t1.val) -∗ stage X d L (16 * t1.val + 8) -∗ wp frame (wpE (defs₀ (F := F)) 𝒱₀ (thr d L) none) Set.univ (kl ⟨⟩) Q)
        -∗ wp frame (wpE (defs₀ (F := F)) 𝒱₀ (thr d L) none) Set.univ
          (Scf.Loop.for k0_t2_loop k0_t2_ok ⟨⟩ (k0_t2_body (F := F) L xV (Memref.isWhole_whole _) oV (Memref.isWhole_whole _)
            aV (Memref.isWhole_whole _) bV (Memref.isWhole_whole _) eV (Memref.isWhole_whole _) gV (Memref.isWhole_whole _)
            cc0_scratch4 cc0_scratch5 cc0_scratch6 cc0_scoped0 v2 c0 c1 t1 w) >>= kl) Q) := by
  iintro H Hk
  iapply (Scf.wp_for_bind frame (wpE (defs₀ (F := F)) 𝒱₀ (thr d L) none) Set.univ _ _ _ _ _ _
    (fun n _ => iprop(held X d L aV (2 * t1.val) ∗ stage X d L (16 * t1.val + n))) ?_) $$ [H]
  · intro t acc
    cases acc
    rw [t2_body_eq]
    unfold stage
    iintro ⟨⟨%f, %hf, Hf⟩, ⟨%g, %hg, Hg⟩⟩
    iapply (wp_mono frame _ _ ?_)
    rotate_left
    · iapply (wp_elem2 d 𝒱₀ none Set.univ aV gV t1 t hf rfl)
      isplitl [Hf] <;> iassumption
    intro _
    iintro ⟨Hf, %g', %hg', Hg⟩
    isplitl [Hf]
    · iexists f
      isplitr; · ipureintro; exact hf
      iexact Hf
    iexists g'
    isplitr
    · ipureintro
      have ht : t.val < 8 := lt_of_lt_of_eq t.isLt trips2
      exact row_step X d L (n := 16 * t1.val + t.val) (k := 2 * t1.val) (by omega) (by omega) hg hg'
    · iexact Hg
  · iexact H
  · iintro %_ ⟨Ha, Hg⟩
    rw [show Scf.trips k0_t2_loop.lb k0_t2_loop.ub k0_t2_loop.st = 8 from trips2]
    iapply Hk $$ [Ha] [Hg]
    · iexact Ha
    · iexact Hg

/-- The second buffer's eight elements. -/
theorem wp_loop3 (t1 : Fin k0_t1_loop.trips) {kl : Unit → Prog (TpuEff nD τ sig (Elt F) Λ₀ (.scVector (cV L) (jV L))) α} :
    iprop(held X d L bV (2 * t1.val + 1) ∗ stage X d L (16 * t1.val + 8))
      ⊢ iprop((held X d L bV (2 * t1.val + 1) -∗ stage X d L (16 * t1.val + 16) -∗ wp frame (wpE (defs₀ (F := F)) 𝒱₀ (thr d L) none) Set.univ (kl ⟨⟩) Q)
        -∗ wp frame (wpE (defs₀ (F := F)) 𝒱₀ (thr d L) none) Set.univ
          (Scf.Loop.for k0_t3_loop k0_t3_ok ⟨⟩ (k0_t3_body (F := F) L xV (Memref.isWhole_whole _) oV (Memref.isWhole_whole _)
            aV (Memref.isWhole_whole _) bV (Memref.isWhole_whole _) eV (Memref.isWhole_whole _) gV (Memref.isWhole_whole _)
            cc0_scratch4 cc0_scratch5 cc0_scratch6 cc0_scoped0 v2 c0 c1 t1 w) >>= kl) Q) := by
  iintro H Hk
  iapply (Scf.wp_for_bind frame (wpE (defs₀ (F := F)) 𝒱₀ (thr d L) none) Set.univ _ _ _ _ _ _
    (fun n _ => iprop(held X d L bV (2 * t1.val + 1) ∗ stage X d L (16 * t1.val + n + 8))) ?_) $$ [H]
  · intro t acc
    cases acc
    rw [t3_body_eq]
    unfold stage
    iintro ⟨⟨%f, %hf, Hf⟩, ⟨%g, %hg, Hg⟩⟩
    iapply (wp_mono frame _ _ ?_)
    rotate_left
    · iapply (wp_elem3 d 𝒱₀ none Set.univ bV gV t1 t hf rfl)
      isplitl [Hf] <;> iassumption
    intro _
    iintro ⟨Hf, %g', %hg', Hg⟩
    isplitl [Hf]
    · iexists f
      isplitr; · ipureintro; exact hf
      iexact Hf
    iexists g'
    isplitr
    · ipureintro
      have ht : t.val < 8 := lt_of_lt_of_eq t.isLt trips3
      rw [show 16 * t1.val + (t.val + 1) + 8 = 16 * t1.val + t.val + 8 + 1 by omega]
      exact row_step X d L (by omega) (by omega) hg hg'
    · iexact Hg
  · iexact H
  · iintro %_ ⟨Ha, Hg⟩
    rw [show Scf.trips k0_t3_loop.lb k0_t3_loop.ub k0_t3_loop.st = 8 from trips3]
    iapply Hk $$ [Ha] [Hg]
    · iexact Ha
    · iexact Hg

/-! ## The loop over the blocks -/

/-- A fetch buffer before trip `n`: the fetch of block `2 n + r` on its way while there is such a block. -/
def slot (A : Memref sig .scVector .vmem S256x128 .f32) (sm : DmaSem sig) (q : PosShare TreeShare) (r n : ℕ) : sProp 𝕄 :=
  if n < 2 then inFlight X d L A sm q (2 * n + r) else idle X d L A sm q

/-- What the task owes, with only waits of the transfers' own recorded since the start. -/
abbrev owing (O : CellTallies nD τ sig (HIx 1)) (W : Waits sig (HIx 1)) : sProp 𝕄 :=
  iprop(∃ W', ⌜∀ p ∈ W', p ∈ W ∨ p.2 = none⌝ ∗ owes (thr d L) O W')

/-- The loop's invariant before trip `n`. -/
def inv (qa qb : PosShare TreeShare) (O : CellTallies nD τ sig (HIx 1)) (W : Waits sig (HIx 1)) (n : ℕ) : sProp 𝕄 :=
  iprop(slot X d L aV cc0_scratch4.sem qa 0 n ∗ slot X d L bV cc0_scratch5.sem qb 1 n ∗ stage X d L (16 * n) ∗ owing d L O W)

omit [FloatOps F] in
theorem owing_insert {W W' : Waits sig (HIx 1)} (hW : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact hW p hp

/-- One trip: each buffer's block awaited, reduced, and the next one fetched while there is one. -/
theorem wp_trip (qa qb : PosShare TreeShare) (O : CellTallies nD τ sig (HIx 1)) (W : Waits sig (HIx 1)) (t1 : Fin k0_t1_loop.trips) :
    iprop(Transfers.MayWaits (thr d L) (default : HIx 1) O ∗ inv X d L qa qb O W t1.val)
      ⊢ wp frame (wpE (defs₀ (F := F)) 𝒱₀ (thr d L) none) Set.univ
        (k0_t1_body (F := F) L xV (Memref.isWhole_whole _) oV (Memref.isWhole_whole _)
          aV (Memref.isWhole_whole _) bV (Memref.isWhole_whole _) eV (Memref.isWhole_whole _) gV (Memref.isWhole_whole _)
          cc0_scratch4 cc0_scratch5 cc0_scratch6 cc0_scoped0 v2 t1 ⟨⟩)
        fun _ => iprop(Transfers.MayWaits (thr d L) (default : HIx 1) O ∗ inv X d L qa qb O W (t1.val + 1)) := by
  have h2 : t1.val < 2 := lt_of_lt_of_eq t1.isLt trips1
  unfold inv
  iintro ⟨#Hmw, Ha, Hb, Hg, %W1, %hW1, HO⟩
  unfold k0_t1_body
  rw [k0_part61_eq_skeleton]
  unfold k0_part61_skel
  ihave Ha' := (Entails.of_eq (show slot X d L aV cc0_scratch4.sem qa 0 t1.val = inFlight X d L aV cc0_scratch4.sem qa (2 * t1.val) from if_pos h2)) $$ Ha
  ihave Hb' := (Entails.of_eq (show slot X d L bV cc0_scratch5.sem qb 1 t1.val = inFlight X d L bV cc0_scratch5.sem qb (2 * t1.val + 1) from if_pos h2)) $$ Hb
  by_cases h0 : t1.val = 0
  · simp only [dif_pos ((refetch1 t1).2 h0), dif_pos ((refetch2 t1).2 h0), Prog.lift, Prog.bind_op, Prog.bind_ret, Prog.bind_assoc, bind_assoc, pure_bind]
    iapply (wp_landed X d L aV cc0_scratch4.sem qa _) $$ [Ha' HO]
    · isplitl [Ha']; · iexact Ha'
      isplitl [HO]; · iexact HO
      iapply (Transfers.MayWaits.elim (SemLoc.dma cc0_scratch4.sem)) $$ Hmw
    iintro Ha Hxa Hsa HO
    iapply (wp_loop2 X d L v2 _ _ _ t1) $$ [Ha Hg]
    · isplitl [Ha] <;> iassumption
    iintro ⟨%fa, -, Ha⟩ Hg
    iapply (wp_fetch X d L aV cc0_scratch4.sem qa (2 * (t1.val + 1)) _ ?_) $$ [Ha Hxa Hsa]
    · rw [k0_off27_eq]; unfold base; congr 1; omega
    · isplitl [Ha]; · iexists fa; iexact Ha
      isplitl [Hxa] <;> iassumption
    iintro Ha
    iapply (wp_landed X d L bV cc0_scratch5.sem qb _) $$ [Hb' HO]
    · isplitl [Hb']; · iexact Hb'
      isplitl [HO]; · iexact HO
      iapply (Transfers.MayWaits.elim (SemLoc.dma cc0_scratch5.sem)) $$ Hmw
    iintro Hb Hxb Hsb HO
    iapply (wp_loop3 X d L v2 _ _ _ t1) $$ [Hb Hg]
    · isplitl [Hb] <;> iassumption
    iintro ⟨%fb, -, Hb⟩ Hg
    iapply (wp_fetch X d L bV cc0_scratch5.sem qb (2 * (t1.val + 1) + 1) _ ?_) $$ [Hb Hxb Hsb]
    · rw [k0_off52_eq]; unfold base; congr 1; omega
    · isplitl [Hb]; · iexists fb; iexact Hb
      isplitl [Hxb] <;> iassumption
    iintro Hb
    iapply (le_wp_ret frame (wpE (defs₀ (F := F)) 𝒱₀ (thr d L) none) Set.univ _ _)
    rw [show slot X d L aV cc0_scratch4.sem qa 0 (t1.val + 1) = inFlight X d L aV cc0_scratch4.sem qa (2 * (t1.val + 1)) from if_pos (by omega),
      show slot X d L bV cc0_scratch5.sem qb 1 (t1.val + 1) = inFlight X d L bV cc0_scratch5.sem qb (2 * (t1.val + 1) + 1) from if_pos (by omega)]
    isplitr; · iexact Hmw
    isplitl [Ha]; · iexact Ha
    isplitl [Hb]; · iexact Hb
    isplitl [Hg]; · iexact Hg
    iexists _; isplitr
    swap; · iexact HO
    ipureintro
    exact owing_insert (owing_insert hW1 _) _
  · simp only [dif_neg (mt (refetch1 t1).1 h0), dif_neg (mt (refetch2 t1).1 h0), Prog.lift, Prog.bind_op, Prog.bind_ret, Prog.bind_assoc, bind_assoc, pure_bind]
    iapply (wp_landed X d L aV cc0_scratch4.sem qa _) $$ [Ha' HO]
    · isplitl [Ha']; · iexact Ha'
      isplitl [HO]; · iexact HO
      iapply (Transfers.MayWaits.elim (SemLoc.dma cc0_scratch4.sem)) $$ Hmw
    iintro Ha Hxa Hsa HO
    iapply (wp_loop2 X d L v2 _ _ _ t1) $$ [Ha Hg]
    · isplitl [Ha] <;> iassumption
    iintro ⟨%fa, -, Ha⟩ Hg
    iapply (wp_landed X d L bV cc0_scratch5.sem qb _) $$ [Hb' HO]
    · isplitl [Hb']; · iexact Hb'
      isplitl [HO]; · iexact HO
      iapply (Transfers.MayWaits.elim (SemLoc.dma cc0_scratch5.sem)) $$ Hmw
    iintro Hb Hxb Hsb HO
    iapply (wp_loop3 X d L v2 _ _ _ t1) $$ [Hb Hg]
    · isplitl [Hb] <;> iassumption
    iintro ⟨%fb, -, Hb⟩ Hg
    iapply (le_wp_ret frame (wpE (defs₀ (F := F)) 𝒱₀ (thr d L) none) Set.univ _ _)
    rw [show slot X d L aV cc0_scratch4.sem qa 0 (t1.val + 1) = idle X d L aV cc0_scratch4.sem qa from if_neg (by omega),
      show slot X d L bV cc0_scratch5.sem qb 1 (t1.val + 1) = idle X d L bV cc0_scratch5.sem qb from if_neg (by omega)]
    isplitr; · iexact Hmw
    isplitl [Ha Hxa Hsa]
    · isplitl [Ha]; · iexists fa; iexact Ha
      isplitl [Hxa] <;> iassumption
    isplitl [Hb Hxb Hsb]
    · isplitl [Hb]; · iexists fb; iexact Hb
      isplitl [Hxb] <;> iassumption
    isplitl [Hg]; · iexact Hg
    iexists _; isplitr
    swap; · iexact HO
    ipureintro
    exact owing_insert (owing_insert hW1 _) _

/-! ## The task -/

abbrev outSlice : Memref sig .scVector .hbm S32x128 .f32 :=
  (oV).slice (Rect.unit (s := S1024x128) (k0_off53 L) S32x128.size (k0_off53_inb L)) (fun _ => rfl)

/-- The block of the result the task writes. -/
abbrev blkL : Fin 32 := blkOf (Fin.cast (show grid0.bound 0 = 2 from rfl) (L 0)) (Fin.cast (show grid0.bound 1 = 16 from rfl) (L 1))

omit [FloatOps F] in
/-- The rows the task's last transfer writes are its block. -/
theorem set_outSlice : (outSlice L).view.set = blkSet (blkL L) := by
  show ((View.whole (main_v2_scv : Ref sig .scVector)).slice (Rect.unit (s := S1024x128) (k0_off53 L) S32x128.size (k0_off53_inb L))).set = _
  rw [View.set_slice]
  refine Finset.map_refl.trans (congrArg (fun r : Rect S1024x128 => r.set) ?_)
  unfold Rect.part Rect.block
  congr 1 <;> funext a
  · rw [k0_off53_eq]
    match a with
    | 0 =>
      show 64 * (L 1).val + 32 * (L 0).val = (2 * (L 1).val + (L 0).val) * 32
      omega
    | 1 => simp [Shape.partIx, Shape.partSize]
  · match a with
    | 0 => simp [Shape.partSize]
    | 1 => simp [Shape.partSize]

abbrev cellA : GSem nD τ sig := (thr d L, .dma cc0_scratch4.sem)
abbrev cellB : GSem nD τ sig := (thr d L, .dma cc0_scratch5.sem)
abbrev cellO : GSem nD τ sig := (thr d L, .dma cc0_scoped0.sem)

omit [FloatOps F] in
/-- The three semaphores the task uses are among the subcore's own. -/
theorem ownSems0_V :
    (ownSems0 (thr d L) : sProp 𝕄)
      = iprop(semVal (cellA d L) 0 ∗ semVal (cellB d L) 0 ∗ semVal (cellO d L) 0
          ∗ bigSep ((((ownCells (thr d L)).erase (cellA d L)).erase (cellB d L)).erase (cellO d L)) fun g => semVal g 0) := by
  unfold SparseCore.Cfg.ownSems0
  rw [SparseCore.bigSep_erase' ((mem_ownCells (g := cellA d L)).mpr ⟨rfl, by
      show (SemLoc.dma cc0_scratch4.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch5.sem : SemLoc sig).isScoped .scVector = true; decide⟩⟩),
    SparseCore.bigSep_erase' (Finset.mem_erase.mpr ⟨by simp [cellB, cellO]; decide, Finset.mem_erase.mpr ⟨by simp [cellA, cellO]; decide,
      (mem_ownCells (g := cellO d L)).mpr ⟨rfl, by show (SemLoc.dma cc0_scoped0.sem : SemLoc sig).isScoped .scVector = true; decide⟩⟩⟩)]

omit [FloatOps F] in
/-- The three buffers the task uses are among the subcore's own. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch3 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
        SparseCore.Cfg.mem_ownRefs_of_owner (p := Proc.scVector (cV L) (jV L)) (b := (Proc.scVector (cV L) (jV L)).devRef cc0_scratch3) rfl⟩⟩)]

omit [FloatOps F] in
/-- Where the entries of the block written out lie. -/
theorem outSlice_emb (i : S32x128.Idx) :
    (((outSlice L).view.emb i : S1024x128.Idx) 0).val = 64 * (L 1).val + 32 * (L 0).val + (i 0).val
      ∧ (((outSlice L).view.emb i : S1024x128.Idx) 1).val = (i 1).val := by
  constructor
  · show k0_off53 L 0 + 1 * (i 0).val = _
    rw [k0_off53_eq]
    show 64 * (L 1).val + 32 * (L 0).val + 1 * (i 0).val = _
    omega
  · show k0_off53 L 1 + 1 * (i 1).val = _
    rw [k0_off53_eq]
    show 0 + 1 * (i 1).val = _
    omega

/-- The block written out, read element by element, is the sums. -/
theorem out_value (g : S32x128.Idx → F .f32) (f : Buf (Elt F) ((outSlice L).view.loc (thr d L)))
    (hg : ∀ i : S32x128.Idx, g i = rowSum (m := 131072) (n := 128) (X d) (base L + 32 * (i 0).val) 31 (i 1).val) :
    ∀ j ∈ (outSlice L).view.set, (outSlice L).view.write (Elt F) f g Finset.univ j = scSum (X d) j := by
  intro j hj
  obtain ⟨i, -, rfl⟩ := Finset.mem_map.mp hj
  refine (View.write_emb_of_mem (v := (outSlice L).view) (Val := Elt F) f g (Finset.mem_univ i)).trans ((cast_eq _ _).trans ((hg i).trans ?_))
  unfold scSum base
  rw [(outSlice_emb L i).1, (outSlice_emb L i).2]
  congr 1
  omega

/-- The task on subcore `L`: from a share of the flat input and its block of the result, that block at the sums. -/
theorem tile_body (q : PosShare TreeShare) (O : CellTallies nD τ sig (HIx 1)) (W : Waits sig (HIx 1)) (hO : ∀ g, O g none = 0) :
    iprop(levAts (K (F := F)).L (K (F := F)).lev ∗ emp
        ∗ (xPts X d q ∗ blkAny d (blkL L))
        ∗ scopedBufs (thr d L) ∗ scopedSems0 (thr d L) ∗ owes (thr d L) O W)
      ⊢ wp frame (wpE (defs₀ (F := F)) 𝒱₀ (thr d L) none) Set.univ
          (cc0_k L xV (Memref.isWhole_whole _) oV (Memref.isWhole_whole _)
            aV (Memref.isWhole_whole _) bV (Memref.isWhole_whole _) eV (Memref.isWhole_whole _) gV (Memref.isWhole_whole _)
            cc0_scratch4 cc0_scratch5 cc0_scratch6 cc0_scoped0)
          fun _ => iprop(blkDone X d (blkL L)
            ∗ scopedBufs (thr d L) ∗ scopedSems0 (thr d L) ∗ owing d L O W) := by
  rw [cc0_k_eq_skeleton]; unfold cc0_k_skel
  rw [(K (F := F)).scopedBufs_V facts d (cV L) (jV L), SparseCore.Cfg.scopedSems0_V (Val := Elt F) d (cV L) (jV L), ownSems0_V, ownBufs_V]
  iintro ⟨#Hlv, -, ⟨Hx, ⟨%fo, Ho⟩⟩, ⟨⟨%fa, Ha⟩, ⟨%fb, Hb⟩, ⟨%fg, Hg⟩, Hbufs⟩, ⟨HsA, HsB, HsO, Hsems⟩, HO⟩
  ihave #Hmw := (show levAts (K (F := F)).L (K (F := F)).lev ⊢ Transfers.MayWaits (thr d L) (default : HIx 1) O from
    (K (F := F)).mayWaits_none (thr := thr d L) hO) $$ Hlv
  ihave Hx2 := (pointsTo_share (PosShare.mem_left_op_right q)).1 $$ Hx
  icases Hx2 with ⟨Hxa, Hxb⟩
  simp only [Prog.lift, Prog.bind_op, Prog.bind_ret, Prog.bind_assoc, bind_assoc, pure_bind]
  iapply (wp_fetch X d L aV cc0_scratch4.sem q.left 0 _ ?_) $$ [Ha Hxa HsA]
  · exact (k0_off1_eq L 0).trans (by unfold base; rfl)
  · isplitl [Ha]; · iexists fa; iexact Ha
    isplitl [Hxa] <;> iassumption
  iintro Ha
  iapply (wp_fetch X d L bV cc0_scratch5.sem q.right 1 _ ?_) $$ [Hb Hxb HsB]
  · exact (k0_off1_eq L 1).trans (by unfold base; rfl)
  · isplitl [Hb]; · iexists fb; iexact Hb
    isplitl [Hxb] <;> iassumption
  iintro Hb
  iapply (Scf.wp_for_bind frame (wpE (defs₀ (F := F)) 𝒱₀ (thr d L) none) Set.univ _ _ _ _ _ _
    (fun n _ => iprop(Transfers.MayWaits (thr d L) (default : HIx 1) O ∗ inv X d L q.left q.right O W n)) ?_) $$ [Ha Hb Hg HO]
  · intro t acc
    cases acc
    exact wp_trip X d L _ _ _ O W t
  · isplitr; · iexact Hmw
    unfold inv
    rw [show slot X d L aV cc0_scratch4.sem q.left 0 0 = inFlight X d L aV cc0_scratch4.sem q.left 0 from if_pos (by omega),
      show slot X d L bV cc0_scratch5.sem q.right 1 0 = inFlight X d L bV cc0_scratch5.sem q.right 1 from if_pos (by omega)]
    isplitl [Ha]; · iexact Ha
    isplitl [Hb]; · iexact Hb
    isplitl [Hg]
    · unfold stage
      iexists fg
      isplitr; · ipureintro; intro i hi; omega
      iexact Hg
    iexists W; isplitr
    · ipureintro; exact fun p hp => .inl hp
    · iexact HO
  iintro %_ ⟨-, Hinv⟩
  rw [show Scf.trips k0_t1_loop.lb k0_t1_loop.ub k0_t1_loop.st = 2 from trips1]
  unfold inv
  rw [show slot X d L aV cc0_scratch4.sem q.left 0 2 = idle X d L aV cc0_scratch4.sem q.left from if_neg (by omega),
    show slot X d L bV cc0_scratch5.sem q.right 1 2 = idle X d L bV cc0_scratch5.sem q.right from if_neg (by omega)]
  unfold stage
  icases Hinv with ⟨⟨Ha, Hxa, HsA⟩, ⟨Hb, Hxb, HsB⟩, ⟨%g, %hg, Hg⟩, ⟨%W1, %hW1, HO⟩⟩
  ihave Ho' := (Entails.of_eq (show (sLoc d ↦[blkSet (blkL L)]{fullShare} fo : sProp 𝕄)
      = (outSlice L).view.loc (thr d L) ↦[(outSlice L).view.set]{fullShare} fo by rw [set_outSlice])) $$ Ho
  ihave Hg' := (Entails.of_eq (show ((gV).view.loc (thr d L) ↦{fullShare} g : sProp 𝕄)
      = (gV).view.loc (thr d L) ↦[(gV).view.set]{fullShare} g by rw [View.set_whole])) $$ Hg
  iapply (Transfers.wp_dmaLocal countersEmb 𝒱₀ (thr d L) none (default : HIx 1) (outSlice L).view.dmaCredit rfl
    (View.dmaCredit_pos _ (by decide)) (subset_refl _)) $$ [Hg' Ho' HsO]
  · isplitl [Hg']; · iexact Hg'
    isplitl [Ho']; · iexact Ho'
    iexact HsO
  iintro Hfl
  iapply (Transfers.wp_waitLocalO countersEmb 𝒱₀ (thr d L) none (default : HIx 1) rfl) $$ [Hfl HO]
  · isplitl [Hfl]; · iexact Hfl
    isplitl [HO]; · iexact HO
    iapply (Transfers.MayWaits.elim (SemLoc.dma cc0_scoped0.sem)) $$ Hmw
  iintro ⟨⟨Ho, Hg⟩, HsO, HO⟩
  iapply (le_wp_ret frame (wpE (defs₀ (F := F)) 𝒱₀ (thr d L) none) Set.univ _ _)
  isplitl [Ho]
  · rw [show (blkDone X d (blkL L) : sProp 𝕄) = ((outSlice L).view.loc (thr d L) ↦[(outSlice L).view.set]{fullShare} (show Buf (Elt F) (sLoc d) from scSum (X d)))
      by rw [set_outSlice]]
    iapply (Entails.of_eq (pointsTo_congr (out_value X d L _ _ fun i => hg i (by have := (i 0).isLt; simpa using this))))
    iexact Ho
  isplitl [Ha Hb Hg Hbufs]
  · isplitl [Ha]; · iexact Ha
    isplitl [Hb]; · iexact Hb
    isplitl [Hg]; · iexists g; rw [View.set_whole]; iexact Hg
    iexact Hbufs
  isplitl [HsA HsB HsO Hsems]
  · isplitl [HsA]; · iexact HsA
    isplitl [HsB]; · iexact HsB
    isplitl [HsO]; · iexact HsO
    iexact Hsems
  iexists _; isplitr
  swap; · iexact HO
  ipureintro
  exact owing_insert hW1 _

end Tile

end Cert.Proof

end
-- ==== Proof.Call.lean ====
/-
  The SparseCore call: every task's obligation, and how the call's operands split over the tasks and its result comes back from
  them.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The obligation -/

/-- A subcore's grid coordinates. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F]

/-- What a subcore runs at the call is the task at its coordinates. -/
theorem defs₀_vector (c : Fin τ.nSC) (s : Fin τ.nSub) :
    defs₀ (F := F) (.scVector c s) 0 ()
      = SparseCore.onTile hcore0 hsub0 (fun c s => cc0_k (coordsV c s)
          (Memref.whole main_v1_scv) (Memref.isWhole_whole _) (Memref.whole main_v2_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (X : Dev nD → S131072x128.Idx → F .f32)

set_option maxRecDepth 16384 in
/-- Every task meets its obligation. -/
theorem tileObl : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) _ O W hO).trans (wp_mono frame _ _ fun _ => obl_post)

/-! ## The operands split over the tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tasks', and the tasks' results the SparseCore's. -/
theorem vecSplit : (K (F := F)).VecSplit' (P X) 0 := by
  intro d c
  show iprop(xPts X d (cq (Fin.cast nCore_zero c)) ∗ bigSep Finset.univ fun i : Fin 16 => blkAny d (blkOf (Fin.cast nCore_zero c) i)) ⊢ |={Set.univ}=> iprop(
      (bigSep Finset.univ fun i : Fin ((K (F := F)).nSub 0) =>
        iprop(xPts X d (tq (Fin.cast nCore_zero c) (Fin.cast nSub_zero i)) ∗ blkAny d (blkOf (Fin.cast nCore_zero c) (Fin.cast nSub_zero i))))
      ∗ ((bigSep Finset.univ fun i : Fin ((K (F := F)).nSub 0) => blkDone X d (blkOf (Fin.cast nCore_zero c) (Fin.cast nSub_zero i)))
          -∗ bigSep Finset.univ fun i : Fin 16 => blkDone X d (blkOf (Fin.cast nCore_zero c) i)))
  rw [bigSep_tasks (F := F) (fun i => iprop(xPts X d (tq (Fin.cast nCore_zero c) i) ∗ blkAny d (blkOf (Fin.cast nCore_zero c) i))),
    bigSep_tasks (F := F) (fun i => blkDone X d (blkOf (Fin.cast nCore_zero c) i)), bigSep_sep']
  iintro ⟨Hx, Ho⟩; imodintro
  isplitl [Hx Ho]
  · isplitl [Hx]; swap; · iexact Ho
    ihave Hx' := (Transfers.pointsTo_toks_split (cq (Fin.cast nCore_zero c)) 16) $$ Hx
    icases Hx' with ⟨-, Hx⟩
    iexact Hx
  iintro H; iexact H

/-! ## The whole operands split over the SparseCores -/

omit [FloatOps F] in
theorem blks_disjoint : ∀ i ∈ (Finset.univ : Finset (Fin 32)), ∀ j ∈ (Finset.univ : Finset (Fin 32)), i ≠ j → Disjoint (blkSet i) (blkSet j) :=
  fun _ _ _ _ h => Rect.part_disjoint sdiv h
omit [FloatOps F] in
theorem blks_cover : (Finset.univ : Finset (Fin 32)).biUnion blkSet = Finset.univ := Rect.biUnion_part sdiv

/-- Core and subcore number the blocks. -/
def blkEquiv : Fin 2 × Fin 16 ≃ Fin 32 := (Equiv.prodComm _ _).trans finProdFinEquiv

theorem blkEquiv_apply (c : Fin 2) (i : Fin 16) : blkEquiv (c, i) = blkOf c i := by
  apply Fin.ext
  simp [blkEquiv, blkOf, finProdFinEquiv, Nat.add_comm]

omit [FloatOps F] in
/-- The result whole is its blocks, core by core. -/
theorem sPts_blocks (d : Dev nD) (f : Buf (Elt F) (sLoc d)) :
    (sLoc d ↦{fullShare} f : sProp 𝕄) = bigSep Finset.univ fun c : Fin 2 => bigSep Finset.univ fun i : Fin 16 => sLoc d ↦[blkSet (blkOf c i)]{fullShare} f := by
  rw [show (sLoc d ↦{fullShare} f : sProp 𝕄) = bigSep Finset.univ fun w : Fin 32 => sLoc d ↦[blkSet w]{fullShare} f by
    rw [← pointsTo_biUnion Finset.univ (ℓ := sLoc d) blkSet blks_disjoint, blks_cover]; try rfl]
  rw [bigSep_univ_equiv blkEquiv, bigSep_univ_prod]
  simp only [blkEquiv_apply]

omit [FloatOps F] in
theorem blkAny_intro (d : Dev nD) (w : Fin 32) (f : Buf (Elt F) (sLoc d)) : (sLoc d ↦[blkSet w]{fullShare} f : sProp 𝕄) ⊢ blkAny d w := by
  iintro H; iexists f; iexact H

/-- The flat input and the result's buffer make the SparseCores' operands. -/
theorem st_of (d : Dev nD) (f : Buf (Elt F) (sLoc d)) :
    iprop(xPts X d fullShare ∗ (sLoc d ↦{fullShare} f)) ⊢ (bigSep Finset.univ fun c : Fin ((K (F := F)).nCore 0) => (P X).st 0 d c : sProp 𝕄) := by
  rw [show (bigSep Finset.univ fun c : Fin ((K (F := F)).nCore 0) => (P X).st 0 d c : sProp 𝕄)
      = bigSep Finset.univ fun c : Fin 2 => iprop(xPts X d (cq c) ∗ bigSep Finset.univ fun i : Fin 16 => blkAny d (blkOf c i)) from
    bigSep_cores (F := F) fun c => iprop(xPts X d (cq c) ∗ bigSep Finset.univ fun i : Fin 16 => blkAny d (blkOf c i)), bigSep_sep', sPts_blocks]
  iintro ⟨Hx, Ho⟩
  isplitl [Hx]
  · ihave Hx' := (Transfers.pointsTo_toks_split fullShare 2) $$ Hx
    icases Hx' with ⟨-, Hx⟩
    iexact Hx
  · iapply (show (bigSep Finset.univ fun c : Fin 2 => bigSep Finset.univ fun i : Fin 16 => (sLoc d ↦[blkSet (blkOf c i)]{fullShare} f : sProp 𝕄))
        ⊢ bigSep Finset.univ fun c : Fin 2 => bigSep Finset.univ fun i : Fin 16 => blkAny d (blkOf c i) from
      bigSep_mono fun c _ => bigSep_mono fun i _ => blkAny_intro d (blkOf c i) f) $$ Ho

/-- What the SparseCores bring back is the result whole, at the sums. -/
theorem dn_eq (d : Dev nD) :
    (bigSep Finset.univ fun c : Fin ((K (F := F)).nCore 0) => (P X).dn 0 d c : sProp 𝕄) = sLoc d ↦{fullShare} (show Buf (Elt F) (sLoc d) from scSum (X d)) :=
  (bigSep_cores (F := F) fun c => bigSep Finset.univ fun i : Fin 16 => blkDone X d (blkOf c i)).trans (sPts_blocks d _).symm

end Cert.Proof

end
-- ==== Proof.Calls.lean ====
/-
  The steps of @main on a TensorCore: a host operation from one buffer to another, and the two TensorCore calls.
-/
module

public import proofs.«01_k».proof.Proof.Final
public import proofs.«01_k».proof.Proof.Call

@[expose] public section

noncomputable section

namespace Cert.Proof

open Cert.KernelIdeal Cert.KernelIdeal.Gen
open Idealize.ShloMosaic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [∀ e, Nonempty (Elt F e)]

local notation "𝕄" => MT nD τ sig (HIx 1) (Elt F) ℕ UU ℕ

variable {Q : PUnit → sProp (MT nD τ sig (HIx 1) (Elt F) ℕ UU ℕ)}

/-- A host operation that reads the whole buffer `x` and overwrites the whole buffer `y`, leaving `v` there. -/
theorem wp_copy (d : Dev nD) (x y : Ref sig .tc) (hxy : x ≠ y) (op : HloOp τ sig (Elt F)) (hb : op.bufs = {(x : DevRef τ sig), (y : DevRef τ sig)})
    (hw : op.writes = {(y : DevRef τ sig)}) (hf : op.fresh = ∅) {hp : (SparseCore.T d).2.kind.runsHlo = true} (fx : Buf (Elt F) ((SparseCore.T d).loc x)) (fy v : Buf (Elt F) ((SparseCore.T d).loc y))
    (hv : ∀ U : Valuation τ sig (Elt F), U (x : DevRef τ sig) = fx → op.result U (y : DevRef τ sig) = v) :
    iprop(boundary (SparseCore.T d) ∗ ((SparseCore.T d).loc x ↦{fullShare} fx) ∗ ((SparseCore.T d).loc y ↦{fullShare} fy))
      ⊢ iprop((iprop(boundary (SparseCore.T d) ∗ ((SparseCore.T d).loc x ↦{fullShare} fx) ∗ ((SparseCore.T d).loc y ↦{fullShare} v)) -∗ Q ⟨⟩)
        -∗ wp frame (wpE ((K (F := F)).defs (D (F := F))) 𝒱 (SparseCore.T d) none) Set.univ (hlo hp op fun _ => .ret ⟨⟩) Q) := by
  have hne : (x : DevRef τ sig) ≠ (y : DevRef τ sig) := fun h => hxy (Proc.devRef_injective _ h)
  let U : Valuation τ sig (Elt F) := Function.update (Function.update (fun _ _ => Classical.arbitrary _) (x : DevRef τ sig) fx) (y : DevRef τ sig) fy
  have hUx : U (x : DevRef τ sig) = fx := by
    show Function.update _ _ _ _ = _
    rw [Function.update_of_ne hne, Function.update_self]
  have hUy : U (y : DevRef τ sig) = fy := Function.update_self _ _ _
  have key := wp_hlo (defs := (K (F := F)).defs (D (F := F))) (Q := Q) (Name := ℕ) (U := UU) (Lvl := ℕ) (Ix := HIx 1) (Γ := .empty) 𝒱 (SparseCore.T d) none Set.univ (hp := hp) (op := op)
    (k := fun _ => .ret ⟨⟩) (q := fun _ => fullShare) (F := U) (fun _ _ => rfl) hf
  rw [hb, SparseCore.bigSep_insert' (by simpa using hne), SparseCore.bigSep_insert' (by simpa using hne), bigSep_singleton, bigSep_singleton, hv U hUx,
    op.result_of_not_mem U (by rw [hw]; simpa using hne), hUx, hUy] at key
  iintro ⟨Hb, Hx, Hy⟩ Hk
  iapply key $$ [Hb Hx Hy]
  · isplitl [Hb]; · iexact Hb
    isplitl [Hx]; · iexact Hx
    iexact Hy
  iintro H
  iapply (le_wp_ret frame (wpE ((K (F := F)).defs (D (F := F))) 𝒱 (SparseCore.T d) none) Set.univ _ _)
  iapply Hk
  iexact H

theorem arrays1_eq (c : Dev nD) (E : Dev nD → Entry F) (G : (w : Fin cfg1.W) → Buf (Elt F) ((cfg1.win w).arr.view.loc (c : Thread nD τ))) :
    ((dats E 0 c).arrays G : sProp 𝕄)
      = iprop(((SparseCore.T c).loc main_arg0 ↦{fullShare} G 0) ∗ ((SparseCore.T c).loc main_arg1 ↦{fullShare} G 1) ∗ ((SparseCore.T c).loc main_v0 ↦{fullShare} G 2) ∗ ((SparseCore.T c).loc main_v3 ↦{fullShare} G 3)) := by
  rw [Pipeline.arrays_eq (Pipeline.pin (pcfgs (F := F)) adm) (dats E) 0 c launch1.arr_whole ((dats E 0 c).share_full fun _ => rfl) G]
  exact bigSep_W1 _

theorem arrays2_eq (c : Dev nD) (E : Dev nD → Entry F) (G : (w : Fin cfg2.W) → Buf (Elt F) ((cfg2.win w).arr.view.loc (c : Thread nD τ))) :
    ((dats E 1 c).arrays G : sProp 𝕄)
      = iprop(((SparseCore.T c).loc main_v2 ↦{fullShare} G 0) ∗ ((SparseCore.T c).loc main_arg1 ↦{fullShare} G 1) ∗ ((SparseCore.T c).loc main_v0 ↦{fullShare} G 2) ∗ ((SparseCore.T c).loc main_v4 ↦{fullShare} G 3)) := by
  rw [Pipeline.arrays_eq (Pipeline.pin (pcfgs (F := F)) adm) (dats E) 1 c launch2.arr_whole ((dats E 1 c).share_full fun _ => rfl) G]
  exact bigSep_W2 _

/-- The tokens a pipeline's cells start from. -/
abbrev pipeGhost (p : Fin 2) (c : Dev nD) : sProp 𝕄 := iprop(Pipeline.cellsGhost cfgs EP p c ∗ Pipeline.toksInit cfgs EP p c)

/-- The first TensorCore call: rows 1024 and on of its result from `x`, the weights and the bias. -/
theorem wp_call1 (d : Dev nD) (E : Entry F) :
    iprop(boundary (SparseCore.T d) ∗ (((SparseCore.T d).loc main_arg0 ↦{fullShare} E.x) ∗ ((SparseCore.T d).loc main_arg1 ↦{fullShare} E.w) ∗ ((SparseCore.T d).loc main_v0 ↦{fullShare} E.b)
        ∗ ((SparseCore.T d).loc main_v3 ↦{fullShare} E.y)) ∗ atEase (F := F) d ∗ levAts (K (F := F)).L (K (F := F)).lev ∗ pipeGhost (F := F) 0 d)
      ⊢ iprop((iprop(boundary (SparseCore.T d) ∗ (((SparseCore.T d).loc main_arg0 ↦{fullShare} E.x) ∗ ((SparseCore.T d).loc main_arg1 ↦{fullShare} E.w) ∗ ((SparseCore.T d).loc main_v0 ↦{fullShare} E.b)
        ∗ ((SparseCore.T d).loc main_v3 ↦{fullShare} out1 E)) ∗ atEase (F := F) d) -∗ Q ⟨⟩)
        -∗ wp frame (wpE ((K (F := F)).defs (D (F := F))) 𝒱 (SparseCore.T d) none) Set.univ (Prog.lift (.customCall (SparseCore.inner (Pipeline.entry 0)) ())) Q) := by
  have key := Pipeline.RegionSeg.wp (pcfgs (F := F)) adm (dats fun _ => E) none cellOf_inj EP (defs₀ (F := F)) 𝒱₀ (K (F := F)).L (K (F := F)).lev (region1 fun _ => E) d none
    (fun u hu => nomatch hu) .ret Q
  rw [show (region1 fun _ => E).pre d = iprop((dats (fun _ => E) 0 d).arrays ((dats (fun _ => E) 0 d).arrAt · 0) ∗ atEase d) from rfl,
    show (region1 fun _ => E).post d = iprop((dats (fun _ => E) 0 d).arrays ((dats (fun _ => E) 0 d).arrAt · (cfgs 0).N) ∗ atEase d) from rfl] at key
  iintro ⟨Hb, Ha, Hi, Hl, Hc, Ht⟩ Hk
  iapply ((K (F := F)).wp_liftProg (D (F := F)) 𝒱 (SparseCore.T d) Set.univ none (.op (.customCall (Pipeline.entry 0) ()) .ret) Q)
  iapply key
  isplitl [Hk]
  · iintro ⟨Hb, Ha, Hi⟩
    iapply (le_wp_ret frame (wpE (D (F := F)) 𝒱 (SparseCore.T d) none) Set.univ _ _)
    iapply Hk
    isplitl [Hb]; · iexact Hb
    isplitl [Ha]
    · ihave H := (Entails.of_eq (arrays1_eq d (fun _ => E) _)) $$ Ha
      rw [show (dats (fun _ => E) 0 d).arrAt 3 (cfgs 0).N = out1 E from final1 d E, show (dats (fun _ => E) 0 d).arrAt 0 (cfgs 0).N = E.x from (dat1 d E).arrAt_in 0 rfl _,
        show (dats (fun _ => E) 0 d).arrAt 1 (cfgs 0).N = E.w from (dat1 d E).arrAt_in 1 rfl _, show (dats (fun _ => E) 0 d).arrAt 2 (cfgs 0).N = E.b from (dat1 d E).arrAt_in 2 rfl _]
      iexact H
    iexact Hi
  isplitl [Hb]; · iexact Hb
  isplitl [Ha Hi]
  · isplitl [Ha]
    · iapply (Entails.of_eq (arrays1_eq d (fun _ => E) _).symm) $$ [Ha]
      iexact Ha
    iexact Hi
  isplitl [Hl]; · iexact Hl
  isplitl [Hc] <;> iassumption

/-- The second TensorCore call: rows below 1024 of its result from the SparseCores' sums, the weights and the bias. -/
theorem wp_call2 (d : Dev nD) (E : Entry F) :
    iprop(boundary (SparseCore.T d) ∗ (((SparseCore.T d).loc main_v2 ↦{fullShare} E.s) ∗ ((SparseCore.T d).loc main_arg1 ↦{fullShare} E.w) ∗ ((SparseCore.T d).loc main_v0 ↦{fullShare} E.b)
        ∗ ((SparseCore.T d).loc main_v4 ↦{fullShare} E.z)) ∗ atEase (F := F) d ∗ levAts (K (F := F)).L (K (F := F)).lev ∗ pipeGhost (F := F) 1 d)
      ⊢ iprop((iprop(boundary (SparseCore.T d) ∗ (((SparseCore.T d).loc main_v2 ↦{fullShare} E.s) ∗ ((SparseCore.T d).loc main_arg1 ↦{fullShare} E.w) ∗ ((SparseCore.T d).loc main_v0 ↦{fullShare} E.b)
        ∗ ((SparseCore.T d).loc main_v4 ↦{fullShare} out2 E)) ∗ atEase (F := F) d) -∗ Q ⟨⟩)
        -∗ wp frame (wpE ((K (F := F)).defs (D (F := F))) 𝒱 (SparseCore.T d) none) Set.univ (Prog.lift (.customCall (SparseCore.inner (Pipeline.entry 1)) ())) Q) := by
  have key := Pipeline.RegionSeg.wp (pcfgs (F := F)) adm (dats fun _ => E) none cellOf_inj EP (defs₀ (F := F)) 𝒱₀ (K (F := F)).L (K (F := F)).lev (region2 fun _ => E) d none
    (fun u hu => nomatch hu) .ret Q
  rw [show (region2 fun _ => E).pre d = iprop((dats (fun _ => E) 1 d).arrays ((dats (fun _ => E) 1 d).arrAt · 0) ∗ atEase d) from rfl,
    show (region2 fun _ => E).post d = iprop((dats (fun _ => E) 1 d).arrays ((dats (fun _ => E) 1 d).arrAt · (cfgs 1).N) ∗ atEase d) from rfl] at key
  iintro ⟨Hb, Ha, Hi, Hl, Hc, Ht⟩ Hk
  iapply ((K (F := F)).wp_liftProg (D (F := F)) 𝒱 (SparseCore.T d) Set.univ none (.op (.customCall (Pipeline.entry 1) ()) .ret) Q)
  iapply key
  isplitl [Hk]
  · iintro ⟨Hb, Ha, Hi⟩
    iapply (le_wp_ret frame (wpE (D (F := F)) 𝒱 (SparseCore.T d) none) Set.univ _ _)
    iapply Hk
    isplitl [Hb]; · iexact Hb
    isplitl [Ha]
    · ihave H := (Entails.of_eq (arrays2_eq d (fun _ => E) _)) $$ Ha
      rw [show (dats (fun _ => E) 1 d).arrAt 3 (cfgs 1).N = out2 E from final2 d E, show (dats (fun _ => E) 1 d).arrAt 0 (cfgs 1).N = E.s from (dat2 d E).arrAt_in 0 rfl _,
        show (dats (fun _ => E) 1 d).arrAt 1 (cfgs 1).N = E.w from (dat2 d E).arrAt_in 1 rfl _, show (dats (fun _ => E) 1 d).arrAt 2 (cfgs 1).N = E.b from (dat2 d E).arrAt_in 2 rfl _]
      iexact H
    iexact Hi
  isplitl [Hb]; · iexact Hb
  isplitl [Ha Hi]
  · isplitl [Ha]
    · iapply (Entails.of_eq (arrays2_eq d (fun _ => E) _).symm) $$ [Ha]
      iexact Ha
    iexact Hi
  isplitl [Hl]; · iexact Hl
  isplitl [Hc] <;> iassumption

end Cert.Proof

end
-- ==== Proof.Main.lean ====
/-
  The kernel's whole run: @main on a TensorCore, the launch, and what every final state holds.
-/
module

public import proofs.«01_k».proof.Proof.Calls

@[expose] public section

noncomputable section

namespace Cert.Proof

open Cert.KernelIdeal Cert.KernelIdeal.Gen
open Idealize.ShloMosaic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The values -/

/-- The three arguments. -/
abbrev argX (d : Dev nD) : Vec F S4096x32x128 .f32 := m ((SparseCore.T d).loc main_arg0)
abbrev argW (d : Dev nD) : Vec F S128x128 .f32 := m ((SparseCore.T d).loc main_arg1)
abbrev argB (d : Dev nD) : Vec F S128 .f32 := m ((SparseCore.T d).loc main_arg2)

/-- The flat input the SparseCores read. -/
def flatX (d : Dev nD) : S131072x128.Idx → F .f32 := shapeCast S131072x128 (argX m d) shapeCasts_S4096x32x128_S131072x128

/-- The bias as a row. -/
def rowB (d : Dev nD) : Vec F S1x128 .f32 := shapeCast S1x128 (argB m d) shapeCasts_S128_S1x128

/-- What the first TensorCore call finds. -/
def entry₁ (d : Dev nD) : Entry F :=
  ⟨argX m d, argW m d, rowB m d, m ((SparseCore.T d).loc main_v3), scSum (flatX m d), m ((SparseCore.T d).loc main_v3)⟩

/-- What the second finds: the array it writes over holds what the first left. -/
def entry₂ (d : Dev nD) : Entry F := { entry₁ m d with z := out1 (entry₁ m d) }

/-- The kernel's result. -/
def result (d : Dev nD) : Vec F S4096x128 .f32 := out2 (entry₂ m d)

/-! ## The ghost state at launch -/

/-- The launch element. -/
def u₀ : UU := (initOf (K (F := F)).hsCells (K (F := F)).hsToks, (initOf (Pipeline.cells cfgs cellOf_inj) (Pipeline.launchToks cfgs cellOf_inj), 1))

/-- What the launch leaves each TensorCore: both pipelines' cells and tokens. -/
def G (d : Dev nD) : sProp 𝕄 :=
  iprop((bigSep Finset.univ fun p : Fin 2 => Pipeline.cellsGhost cfgs EP p d) ∗ bigSep Finset.univ fun p : Fin 2 => Pipeline.toksInit cfgs EP p d)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (flatX m)).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HP⟩
  imod (Pipeline.fund_ghost cfgs (EP (F := F)) cellOf_inj) $$ [HP] with ⟨Hc, Ht⟩
  · iexact HP
  imodintro
  isplitl [HH]; · iexact HH
  isplitl [Hc Ht]
  · unfold G
    rw [bigSep_sep']
    isplitl [Hc] <;> iassumption
  rw [show (bigSep Finset.univ fun thr : Thread nD τ => bigSep Finset.univ fun q : Fin 1 => (P (flatX m)).x q thr) = (bigSep Finset.univ fun _ => iprop(emp) : sProp 𝕄) from
    bigSep_congr fun _ _ => bigSep_univ_of_subsingleton (0 : Fin 1),
    show (bigSep Finset.univ fun _ : Thread nD τ => iprop(emp) : sProp 𝕄) = iprop(emp) from bigSep_emp_const _]
  iempintro

theorem bigSep_two (Φ : Fin 2 → sProp 𝕄) : bigSep Finset.univ Φ = iprop(Φ 0 ∗ Φ 1) := by
  rw [show (Finset.univ : Finset (Fin 2)) = {0, 1} from rfl, SparseCore.bigSep_insert' (by decide), bigSep_singleton]

theorem G_eq (d : Dev nD) : (G d : sProp 𝕄) ⊢ iprop(pipeGhost (F := F) 0 d ∗ pipeGhost (F := F) 1 d) := by
  unfold G
  rw [bigSep_two, bigSep_two]
  iintro ⟨⟨Hc, Hc'⟩, Ht, Ht'⟩
  isplitl [Hc Ht]
  · isplitl [Hc] <;> iassumption
  · isplitl [Hc'] <;> iassumption

/-- After its one SparseCore call a TensorCore owes nothing. -/
theorem tcSt_one (d : Dev nD) :
    ((K (F := F)).tcSt EH d ((0 : Fin 1).val + 1) : sProp 𝕄) ⊢ iprop(atEase (F := F) d ∗ (atEase (F := F) d -∗ (K (F := F)).tcSt EH d 1)) := by
  unfold SparseCore.Cfg.tcSt atEase
  rw [show (K (F := F)).Otc d ((0 : Fin 1).val + 1) = 0 from (K (F := F)).Otc_end d le_rfl, (K (F := F)).Otc_end d le_rfl]
  iintro ⟨HO, Hrest⟩
  isplitl [HO]; · iexact HO
  iintro HO
  isplitl [HO]; · iexact HO
  iexact Hrest

theorem unscopedBufs_eq (d : Dev nD) (W : (b : Ref sig .tc) → Buf (Elt F) ((SparseCore.T d : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3) ∗ ((SparseCore.T d).loc main_v4 ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## @main on the TensorCore -/

/-- What the run keeps: the arguments as they were and the result. -/
abbrev FIN (d : Dev nD) : sProp 𝕄 :=
  iprop(((SparseCore.T d).loc main_arg0 ↦{fullShare} argX m d) ∗ ((SparseCore.T d).loc main_arg1 ↦{fullShare} argW m d)
    ∗ ((SparseCore.T d).loc main_arg2 ↦{fullShare} argB m d) ∗ ((SparseCore.T d).loc main_v4 ↦{fullShare} result m d))

theorem hmain (κ : GSem nD τ sig → ℕ) (d : Dev nD) :
    iprop((K (F := F)).ctx EH (P (flatX m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hbias, H0, H1, H2, H3, H4⟩, Hts, -⟩, HG⟩
  ihave HG' := (G_eq d) $$ HG
  icases HG' with ⟨HG0, HG1⟩
  iapply (wp_copy d main_arg2 main_v0 (by decide) _ rfl rfl rfl (argB m d) _ (rowB m d)
    (fun U hU => by rw [StableHlo.reshape_result, hU]; rfl)) $$ [Hb Hbias H0]
  · isplitl [Hb]; · iexact Hb
    isplitl [Hbias] <;> iassumption
  iintro ⟨Hb, Hbias, H0⟩
  iapply (wp_copy d main_arg0 main_v1 (by decide) _ rfl rfl rfl (argX m d) _ (flatX m d)
    (fun U hU => by rw [StableHlo.reshape_result, hU]; rfl)) $$ [Hb Hx H1]
  · isplitl [Hb]; · iexact Hb
    isplitl [Hx] <;> iassumption
  iintro ⟨Hb, Hx, H1⟩
  iapply ((K (F := F)).wp_run (D (F := F)) 𝒱 (EH := EH) (P := P (flatX m)) κ d 0)
  isplitr; · iexact Hctx
  isplitl [Hst]; · iexact Hst
  isplitl [H1 H2]
  · iapply (st_of (flatX m) d _)
    isplitl [H1] <;> iassumption
  iintro ⟨Hst, H2⟩
  ihave H2' := (Entails.of_eq (dn_eq (flatX m) d)) $$ H2
  ihave Hlev := ((K (F := F)).ctx_levAts (EH := EH) (P := P (flatX m)) κ) $$ Hctx
  ihave Hst' := (tcSt_one d) $$ Hst
  icases Hst' with ⟨HO, Hback⟩
  iapply (wp_call1 d (entry₁ m d)) $$ [Hb Hx Hw H0 H3 HO HG0]
  · isplitl [Hb]; · iexact Hb
    isplitl [Hx Hw H0 H3]
    · isplitl [Hx]; · iexact Hx
      isplitl [Hw]; · iexact Hw
      isplitl [H0]; · iexact H0
      iexact H3
    isplitl [HO]; · iexact HO
    isplitr; · iexact Hlev
    iexact HG0
  iintro ⟨Hb, ⟨Hx, Hw, H0, H3⟩, HO⟩
  iapply (wp_copy d main_v3 main_v4 (by decide) _ rfl rfl rfl (out1 (entry₁ m d)) _ (out1 (entry₁ m d))
    (fun U hU => by rw [StableHlo.unary_result, hU]; rfl)) $$ [Hb H3 H4]
  · isplitl [Hb]; · iexact Hb
    isplitl [H3] <;> iassumption
  iintro ⟨Hb, H3, H4⟩
  iapply (wp_call2 d (entry₂ m d)) $$ [Hb Hw H0 H2' H4 HO HG1]
  · isplitl [Hb]; · iexact Hb
    isplitl [Hw H0 H2' H4]
    · isplitl [H2']; · iexact H2'
      isplitl [Hw]; · iexact Hw
      isplitl [H0]; · iexact H0
      iexact H4
    isplitl [HO]; · iexact HO
    isplitr; · iexact Hlev
    iexact HG1
  iintro ⟨Hb, ⟨H2, Hw, H0, H4⟩, HO⟩
  imodintro
  isplitl [Hback HO]
  · iapply Hback; iexact HO
  isplitl [Hx Hw Hbias H4]
  · isplitl [Hx]; · iexact Hx
    isplitl [Hw]; · iexact Hw
    isplitl [Hbias]; · iexact Hbias
    iexact H4
  isplitl [Hb] <;> iassumption

/-- What a final state holds on a device. -/
def fq (d : Dev nD) (s' : Phys nD τ sig (Elt F)) : Prop :=
  s'.mem.mem ((SparseCore.T d).loc main_v4) = result m d ∧ s'.mem.mem ((SparseCore.T d).loc main_arg0) = argX m d
    ∧ s'.mem.mem ((SparseCore.T d).loc main_arg1) = argW m d ∧ s'.mem.mem ((SparseCore.T d).loc main_arg2) = argB m d

/-- A buffer held whole is what the state has. -/
theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hx, Hw, Hb, Ho⟩, HSI⟩
  ihave H := (agree _ _ s') $$ [HSI Hx]
  · isplitl [HSI] <;> iassumption
  icases H with ⟨%h1, HSI⟩
  ihave H := (agree _ _ s') $$ [HSI Hw]
  · isplitl [HSI] <;> iassumption
  icases H with ⟨%h2, HSI⟩
  ihave H := (agree _ _ s') $$ [HSI Hb]
  · isplitl [HSI] <;> iassumption
  icases H with ⟨%h3, HSI⟩
  ihave H := (agree _ _ s') $$ [HSI Ho]
  · isplitl [HSI] <;> iassumption
  icases H with ⟨%h4, -⟩
  ipureintro; exact ⟨h4, h1, h2, h3⟩

/-- What every final state holds: on each device the result and the arguments as they were, and no semaphore raised. -/
def QC : PUnit × MemSt nD τ sig (Elt F) → Prop := fun r =>
  (∀ d : Dev nD, r.2.mem ((SparseCore.T d).loc main_v4) = result m d ∧ r.2.mem ((SparseCore.T d).loc main_arg0) = argX m d
    ∧ r.2.mem ((SparseCore.T d).loc main_arg1) = argW m d ∧ r.2.mem ((SparseCore.T d).loc main_arg2) = argB m d) ∧ r.2.sem = fun _ => 0

/-- The kernel's run, from any memory whose semaphores are at zero. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (flatX m)) (A := ∅) facts v₀
    (fun q hq => match q with | 0 => nomatch hq)
    (fun q _ => match q with | 0 => tileObl (flatX m))
    (fun q _ => match q with | 0 => SparseCore.Cfg.VecSplit.of_plain (vecSplit (flatX m)))
    m ρ main (G (F := F)) (FIN m) (u₀ (F := F)) (sep_elim_left.trans (hu₀ m)) (hmain m ρ) (fq m) (hfin m) (QC m) (fun _ h hz => ⟨h, hz⟩)

end Cert.Proof

end
-- ==== Proof.Frames.lean ====
/-
  The frames: each program runs, leaves its arguments as they were and every semaphore counter at zero.
-/
module

public import proofs.«01_k».proof.Defs
public import proofs.«01_k».proof.Proof.Main
public import proofs.«01_k».proof.Proof.Gen.Kernel
public import proofs.«01_k».proof.Proof.Gen.ReferenceIdeal.Run

@[expose] public section

noncomputable section

namespace Cert.Proof

open Idealize.ShloMosaic Idealize.SL.Sem

/-- The bodies of the two kernels are the same, processor by processor and label by label: their texts agree. -/
theorem bodies_eq : (Cert.Kernel.defs₀ (F := Bits) :
      Defs Cert.KernelIdeal.nD Cert.KernelIdeal.τ Cert.KernelIdeal.sig (Elt Bits) Cert.KernelIdeal.Λ₀)
    = Cert.KernelIdeal.defs₀ := by
  funext p l a
  rcases p with _ | c | ⟨c, s⟩
  · rcases l with ⟨_ | _ | _ | n, h⟩
    · rfl
    · rcases a with ⟨t, s⟩; rfl
    · rcases a with ⟨t, s⟩; rfl
    · exact absurd h (by omega)
  · rcases l with ⟨_ | _ | _ | n, h⟩ <;> rfl
  · rcases l with ⟨_ | _ | _ | n, h⟩ <;> rfl

/-- So are their tables with the pipelines and the SparseCore call added. -/
theorem defs_eq : (Cert.Kernel.defs (F := Bits) : Defs Cert.KernelIdeal.nD Cert.KernelIdeal.τ Cert.KernelIdeal.sig (Elt Bits)
      (SparseCore.Sig (Pipeline.Sig Cert.KernelIdeal.Λ₀ (Fin 2) fun p => (Cert.KernelIdeal.pcfgs (F := Bits) p).Adm) 1))
    = Cert.KernelIdeal.defs :=
  congrArg (fun b => Cert.KernelIdeal.sc.defs (Pipeline.defs Cert.KernelIdeal.pcfgs b)) bodies_eq

/-- The kernel at machine floats runs, keeps its arguments and ends with every counter at zero: the run over any
    floats, its value dropped. -/
theorem frame_kernel : Cert.quiescent_Kernel := fun m ρ _ => by
  have h := (θ_run Cert.KernelIdeal.defs _ _).mono (fun _ h => (⟨fun c => (h.1 c).2, h.2⟩ : _ ∧ _)) (run_main (F := Bits) m ρ)
  rw [← defs_eq] at h
  exact h

/-- The kernel at exact floats runs, keeps its arguments and ends with every counter at zero. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference at exact floats runs and keeps its arguments; it has no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Algebra.lean ====
/-
  The equation over the extended reals. A linear layer applied to each of `n` rows and summed is the layer's product
  applied to the rows' sum, with the bias taken `n` times. It distributes a product over a sum, which fails at the
  infinities, so the rows and the weights are reals here; the bias may be infinite.
-/
module

public import Mathlib.Data.EReal.Operations
public import Mathlib.Algebra.BigOperators.Fin
public import Mathlib.Algebra.BigOperators.Ring.Finset

@[expose] public section

noncomputable section

namespace Cert.Proof

/-- A sum of reals, taken in the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The product of the rows' sum is the sum of the rows' products, entry by entry real. -/
theorem sum_products {ι κ : Type} [Fintype ι] [Fintype κ] (x : ι → κ → EReal) (w : κ → EReal)
    (hx : ∀ p d, ∃ r : ℝ, x p d = r) (hw : ∀ d, ∃ r : ℝ, w d = r) :
    ∑ d, (∑ p, x p d) * w d = ∑ p, ∑ d, x p d * w d := by
  choose x' hx' using hx
  choose w' hw' using hw
  simp only [hx', hw', ← coe_sum, ← EReal.coe_mul]
  congr 1
  simp only [Finset.sum_mul]
  exact Finset.sum_comm

/-- The layer on the rows' sum, its bias taken `n` times, is the sum of the layer's values on the rows. -/
theorem layer_of_sum {κ : Type} [Fintype κ] {n : ℕ} (x : Fin n → κ → EReal) (w : κ → EReal) (b : EReal)
    (hx : ∀ p d, ∃ r : ℝ, x p d = r) (hw : ∀ d, ∃ r : ℝ, w d = r) :
    (∑ d, (∑ p, x p d) * w d) + (n : EReal) * b = ∑ p, ((∑ d, x p d * w d) + b) := by
  rw [Finset.sum_add_distrib, sum_products x w hx hw, Finset.sum_const, Finset.card_univ, Fintype.card_fin, EReal.nsmul_eq_mul]

end Cert.Proof

end
-- ==== Proof.KernelValue.lean ====
/-
  What the kernel's result holds at the ideal floats: at row `i` and column `o`, the product of the sum of the 32
  rows of `i` with row `o` of the weights, and 32 times the bias.
-/
module

public import proofs.«01_k».proof.Proof.Main
public import Idealize.ShloMosaic.Lib.MatmulPlain
public import Idealize.ShloMosaic.Lib.Pointwise.Reduce
public import Idealize.ShloMosaic.Lib.Pipeline.Value
public import Idealize.ShloMosaic.Lib.IdealHost

@[expose] public section

noncomputable section

namespace Cert.Proof

open Cert.KernelIdeal Cert.KernelIdeal.Gen
open Idealize.ShloMosaic

/-- The sum of the 32 rows of `i`, at column `d`. -/
def rowsSum (x : S4096x32x128.Idx → EReal) (i : Fin 4096) (d : Fin 128) : EReal := ∑ p : Fin 32, x (ix3 i p d)

/-- The layer on that sum, the bias taken 32 times. -/
def layerOfSum (x : S4096x32x128.Idx → EReal) (w : S128x128.Idx → EReal) (b : S128.Idx → EReal) (i : Fin 4096) (o : Fin 128) : EReal :=
  (∑ d : Fin 128, rowsSum x i d * w (ix2 o d)) + (32 : ℕ) * b (ix1 o)

/-- The library's two spellings of a two-axis index are one index. -/
theorem ix2_eq {M N : ℕ} (r : Fin M) (o : Fin N) : (ValueIdx.ix2 r o : (⟨2, ![M, N]⟩ : Shape).Idx) = ix2 r o :=
  funext fun a => match a with | ⟨0, _⟩ => rfl | ⟨1, _⟩ => rfl

/-- The word of the bias's factor is the number 32. -/
theorem word_32 : Ideal.ofBits .f32 0x42000000#32 = ((32 : ℕ) : EReal) := by
  rw [show ((32 : ℕ) : EReal) = ((32 : ℝ) : EReal) by norm_cast]
  simp [Ideal.ofBits, Ideal.ieee, -EReal.coe_mul]; norm_num

/-- The bias's row, 32 times over and spread down the rows, at an entry. -/
theorem bias_apply {M : ℕ} (hb : S1x128.Broadcasts ⟨2, ![M, 128]⟩) (v : Vec Ideal S1x128 .f32) (r : Fin M) (o : Fin 128) :
    broadcastTo ⟨2, ![M, 128]⟩ (mulf (broadcast S1x128 (Scalar.ofBits .f32 0x42000000#32 : Ideal .f32)) (shapeCast S1x128 v shapeCasts_S1x128_S1x128)) hb (ix2 r o)
      = (32 : ℕ) * v (ix2 0 o) := by
  rw [broadcastTo_apply _ hb (ix2 r o) (ix2 (n0 := 1) (n1 := 128) 0 o) (fun a => match a with | ⟨0, _⟩ => rfl | ⟨1, _⟩ => rfl)]
  rw [shapeCast_id]
  exact congrArg (· * v (ix2 0 o)) word_32

/-- The first call's payload at an entry of its block. -/
theorem pay1_apply (v : Vec Ideal S512x32x128 .f32) (w : Vec Ideal S128x128 .f32) (b : Vec Ideal S1x128 .f32) (r : Fin 512) (o : Fin 128) :
    k1_pay1 v w b (ix2 r o) = (∑ d : Fin 128, (∑ p : Fin 32, v (ix3 r p d)) * w (ix2 o d)) + (32 : ℕ) * b (ix2 0 o) := by
  refine congrArg₂ (fun a b : EReal => a + b) ?_ (bias_apply broadcasts_S1x128_S512x128 b r o)
  refine (Ideal.matmul_transposedRhs_apply (M := 512) (K := 128) (N := 128) none _ w _ r o).trans ?_
  refine (congrArg₂ (fun a b : EReal => a + b) Ideal.ofBits_zero_f32 (Finset.sum_congr rfl fun d _ => ?_)).trans (zero_add _)
  exact congrArg₂ (fun a b : EReal => a * b) (Ideal.reduceAdd_r3_a1 reduces_S512x32x128_S512x128 v (ix2 r d)) (congrArg w (ix2_eq o d))

/-- The second call's payload at an entry of its block. -/
theorem pay2_apply (v : Vec Ideal S1024x128 .f32) (w : Vec Ideal S128x128 .f32) (b : Vec Ideal S1x128 .f32) (r : Fin 1024) (o : Fin 128) :
    k2_pay1 v w b (ix2 r o) = (∑ d : Fin 128, v (ix2 r d) * w (ix2 o d)) + (32 : ℕ) * b (ix2 0 o) := by
  refine congrArg₂ (fun a b : EReal => a + b) ?_ (bias_apply broadcasts_S1x128_S1024x128 b r o)
  refine (Ideal.matmul_transposedRhs_apply (M := 1024) (K := 128) (N := 128) none _ w _ r o).trans ?_
  refine (congrArg₂ (fun a b : EReal => a + b) Ideal.ofBits_zero_f32 (Finset.sum_congr rfl fun d _ => ?_)).trans (zero_add _)
  rw [shapeCast_id]
  exact congrArg₂ (fun a b : EReal => a * b) (congrArg v (ix2_eq r d)) (congrArg w (ix2_eq o d))

/-- A sum added left to right is the sum over its range. -/
theorem foldUp_eq_sum (g : ℕ → Ideal .f32) (n : ℕ) : foldUp (F := Ideal) g n = (∑ p ∈ Finset.range (n + 1), (g p : EReal) : EReal) := by
  induction n with
  | zero => exact (Finset.sum_range_one _).symm
  | succ n ih => rw [Finset.sum_range_succ, ← ih]; rfl

/-- The flat input at row `32 i + p` is the input at `(i, p)`. -/
theorem flat_apply (x : S4096x32x128.Idx → EReal) (i : Fin 4096) (p : Fin 32) (d : Fin 128) (h : 32 * i.val + p.val < 131072) :
    shapeCast S131072x128 x shapeCasts_S4096x32x128_S131072x128 (ix2 (⟨32 * i.val + p.val, h⟩ : Fin 131072) d) = x (ix3 i p d) := by
  refine shapeCast_apply x _ _ _ ?_
  rw [Shape.rowMajor_val_three, Shape.rowMajor_val_two]
  show (i.val * 32 + p.val) * 128 + d.val = (32 * i.val + p.val) * 128 + d.val
  omega

/-- What the SparseCores leave: the sums of the rows, for the first 1024. -/
theorem scSum_apply (x : S4096x32x128.Idx → EReal) (r : Fin 1024) (d : Fin 128) :
    scSum (F := Ideal) (shapeCast S131072x128 x shapeCasts_S4096x32x128_S131072x128) (ix2 r d)
      = rowsSum x ⟨r.val, by have := r.isLt; omega⟩ d := by
  refine (foldUp_eq_sum _ 31).trans ?_
  rw [Finset.sum_range]
  refine Finset.sum_congr rfl fun p _ => ?_
  have hp := p.isLt
  have hr := r.isLt
  refine (at2_eq (m := 131072) (n := 128) _ (ix2 (⟨32 * r.val + p.val, by omega⟩ : Fin 131072) d) rfl rfl).symm.trans ?_
  exact flat_apply x ⟨r.val, by omega⟩ p d (by omega)

/-- The bias's row at a column. -/
theorem row_apply (b : S128.Idx → EReal) (o : Fin 128) : shapeCast S1x128 b shapeCasts_S128_S1x128 (ix2 0 o) = b (ix1 o) := by
  refine shapeCast_apply b _ _ _ ?_
  rw [Shape.rowMajor_val_one, Shape.rowMajor_val_two]
  show o.val = 0 * 128 + o.val
  omega

variable (m : (ℓ : Loc nD τ sig) → Buf (Elt Ideal) ℓ)

/-- The kernel's result at an entry: the first 1024 rows by the second call, the others by the first. -/
theorem result_apply (c : Dev nD) (i : Fin 4096) (o : Fin 128) :
    result (F := Ideal) m c (ix2 i o) = layerOfSum (argX m c) (argW m c) (argB m c) i o := by
  have hi := i.isLt
  by_cases h : i.val < 1024
  · refine (if_pos h).trans ?_
    rw [full2_apply _ (ix2 (⟨i.val, h⟩ : Fin 1024) o) (ix2 i o) rfl rfl, pay2_apply]
    refine congrArg₂ (fun a b : EReal => a + b) (Finset.sum_congr rfl fun d _ => congrArg (· * argW m c (ix2 o d)) ?_)
      (congrArg (fun t : EReal => (32 : ℕ) * t) (row_apply (argB m c) o))
    exact scSum_apply (argX m c) ⟨i.val, h⟩ d
  · refine (if_neg h).trans ((if_pos (Nat.not_lt.1 h)).trans ?_)
    rw [full1_apply _ (⟨i.val / 512, by omega⟩ : Fin 8) (ix2 (⟨i.val % 512, Nat.mod_lt _ (by decide)⟩ : Fin 512) o) (ix2 i o)
      (Nat.div_add_mod i.val 512).symm rfl, pay1_apply]
    refine congrArg₂ (fun a b : EReal => a + b) (Finset.sum_congr rfl fun d _ => congrArg (· * argW m c (ix2 o d)) ?_)
      (congrArg (fun t : EReal => (32 : ℕ) * t) (row_apply (argB m c) o))
    refine Finset.sum_congr rfl fun p _ => congrArg (argX m c) ?_
    exact congrArg (fun t : Fin 4096 => ix3 t p d) (Fin.ext (Nat.div_add_mod i.val 512))

end Cert.Proof

end
-- ==== Proof.ReferenceValue.lean ====
/-
  What the reference's result holds at the ideal floats: at row `i` and column `o`, the sum over the 32 rows of `i` of
  the linear layer's value there. The reference scatters row `r` of the layer's value onto row `r / 32`.
-/
module

public import proofs.«01_k».proof.Proof.KernelValue
public import proofs.«01_k».proof.Proof.Gen.ReferenceIdeal.Run
public import Idealize.ShloMosaic.Lib.StackMember
public import Idealize.ShloMosaic.Lib.ValueLayout
public import Idealize.ShloMosaic.Lib.WordArith
public import Idealize.ShloMosaic.Lib.Routing.OpsPair

@[expose] public section

noncomputable section

namespace Cert.Proof

open Cert.ReferenceIdeal Cert.ReferenceIdeal.Gen
open Idealize.ShloMosaic

/-- The linear layer at a flat row and a column, of the input and the weights as the reference holds them. -/
def layerRows (x : S4096x32x128.Idx → EReal) (w : S128x128.Idx → EReal) (b : S128.Idx → EReal) : FVec Ideal S131072x128 .f32 :=
  addf (F := Ideal) (φ := .f32)
    (Host.dotGeneral (F := Ideal) (φ₁ := .f32) (φ₂ := .f32) dot_S131072x128_S128x128_S131072x128_1_0_0_1_n_n none
      (shapeCast S131072x128 x shapeCasts_S4096x32x128_S131072x128) (transpose S128x128 [1, 0] w transposes_S128x128_S128x128_1_0))
    (broadcastInDim S131072x128 ![0, 1] bcast_S1x128_S131072x128_0_1 (broadcastInDim S1x128 ![1] bcast_S128_S1x128_1 b))

/-- The word of each flat row: the number of the row it is added to. -/
def rowWords : IVec S131072x1 32 :=
  broadcastInDim S131072x1 ![0] bcast_S131072_S131072x1_0
    (shapeCast S131072 (broadcastInDim S4096x32 ![0] bcast_S4096_S4096x32_0 (iotaInDim S4096 32 0)) shapeCasts_S4096x32_S131072)

/-- The reference's result. -/
def aggregated (x : S4096x32x128.Idx → EReal) (w : S128x128.Idx → EReal) (b : S128.Idx → EReal) : FVec Ideal S4096x128 .f32 :=
  Host.scatterAdd (F := Ideal) (φ := .f32) scatter_S4096x128_S131072x1_S131072x128_1_0_0_1
    (broadcastInDim S4096x128 ![] bcast_S_S4096x128 (constant S_ .f32 0x00000000#32)) rowWords (layerRows x w b)

/-- The flat row of row `p` of `i`. -/
def flatRow (i : Fin 4096) (p : Fin 32) : Fin 131072 := ⟨32 * i.val + p.val, by have := i.isLt; have := p.isLt; omega⟩

/-- The layer at the flat row of `(i, p)`. -/
theorem layerRows_apply (x : S4096x32x128.Idx → EReal) (w : S128x128.Idx → EReal) (b : S128.Idx → EReal) (i : Fin 4096) (p : Fin 32) (o : Fin 128) :
    layerRows x w b (ix2 (flatRow i p) o) = (∑ d : Fin 128, x (ix3 i p d) * w (ix2 o d)) + b (ix1 o) := by
  refine congrArg₂ (fun a b : EReal => a + b) ?_ ?_
  · rw [← ix2_eq]
    refine (StackMember.dotGeneral_plain_apply (m := 131072) (k := 128) (n := 128) (φ₁ := .f32) (φ₂ := .f32) none _ _ (flatRow i p) o).trans ?_
    refine Finset.sum_congr rfl fun d _ => congrArg₂ (fun a b : EReal => a * b) ?_ ?_
    · exact (congrArg _ (ix2_eq (flatRow i p) d)).trans (flat_apply x i p d _)
    · exact (ValueIdx.transpose_ix2_apply w transposes_S128x128_S128x128_1_0 d o).trans (congrArg w (ix2_eq o d))
  · rw [broadcastInDim_apply ![0, 1] _ _ (ix2 (flatRow i p) o) (ix2 (n0 := 1) (n1 := 128) 0 o) (fun a => match a with | ⟨0, _⟩ => rfl | ⟨1, _⟩ => rfl),
      broadcastInDim_apply ![1] _ b (ix2 (n0 := 1) (n1 := 128) 0 o) (ix1 o) (fun a => match a with | ⟨0, _⟩ => rfl)]

/-- The word of flat row `r` is the number `r / 32`. -/
theorem rowWords_apply (r : Fin 131072) : (rowWords (ix2 r 0)).toInt = ((r.val / 32 : ℕ) : ℤ) := by
  have hr := r.isLt
  unfold rowWords
  rw [broadcastInDim_apply ![0] _ _ (ix2 (n0 := 131072) (n1 := 1) r 0) (ix1 r) (fun a => match a with | ⟨0, _⟩ => rfl),
    shapeCast_apply _ _ (ix1 r) (ix2 (⟨r.val / 32, by omega⟩ : Fin 4096) (⟨r.val % 32, Nat.mod_lt _ (by decide)⟩ : Fin 32)) (by
      rw [Shape.rowMajor_val_two, Shape.rowMajor_val_one]
      exact (Nat.div_add_mod' r.val 32)),
    broadcastInDim_apply ![0] _ _ (ix2 (⟨r.val / 32, by omega⟩ : Fin 4096) (⟨r.val % 32, Nat.mod_lt _ (by decide)⟩ : Fin 32)) (ix1 ⟨r.val / 32, by omega⟩)
      (fun a => match a with | ⟨0, _⟩ => rfl)]
  exact WordArith.toInt_ofNat_small (r.val / 32) (by omega)

/-- The scatter reads one word for each update row. -/
theorem word_index (j : S131072x128.Idx) (c : Fin 1) :
    scatter_S4096x128_S131072x1_S131072x128_1_0_0_1.siIdx j c = ix2 (n0 := 131072) (n1 := 1) (j 0) 0 := by
  funext a
  match a with
  | ⟨0, _⟩ => rfl
  | ⟨1, _⟩ => exact Subsingleton.elim (α := Fin 1) _ _

/-- An update lands on row `i`, column `o` exactly when its row's word is `i` and its column is `o`. -/
theorem lands (idx : IVec S131072x1 32) (j : S131072x128.Idx) (i : Fin 4096) (o : Fin 128) :
    scatter_S4096x128_S131072x1_S131072x128_1_0_0_1.resultIdx? j idx = some (ix2 i o)
      ↔ (idx (ix2 (n0 := 131072) (n1 := 1) (j 0) 0)).toInt = (i.val : ℤ) ∧ (j 1).val = o.val := by
  rw [Routing.resultIdx?_eq_some, Fin.forall_fin_two]
  have h0 : scatter_S4096x128_S131072x1_S131072x128_1_0_0_1.start j idx 0 = (idx (ix2 (n0 := 131072) (n1 := 1) (j 0) 0)).toInt :=
    congrArg (fun k => (idx k).toInt) (word_index j 0)
  have h1 : scatter_S4096x128_S131072x1_S131072x128_1_0_0_1.start j idx 1 = 0 := rfl
  have w0 : scatter_S4096x128_S131072x1_S131072x128_1_0_0_1.window j 0 = 0 := rfl
  have w1 : scatter_S4096x128_S131072x1_S131072x128_1_0_0_1.window j 1 = (j 1).val := rfl
  rw [h0, h1, w0, w1]
  show _ + ((0 : ℕ) : ℤ) = (i.val : ℤ) ∧ (0 : ℤ) + ((j 1).val : ℤ) = (o.val : ℤ) ↔ _
  omega

/-- The reference's result at an entry. -/
theorem aggregated_apply (x : S4096x32x128.Idx → EReal) (w : S128x128.Idx → EReal) (b : S128.Idx → EReal) (i : Fin 4096) (o : Fin 128) :
    aggregated x w b (ix2 i o) = ∑ p : Fin 32, ((∑ d : Fin 128, x (ix3 i p d) * w (ix2 o d)) + b (ix1 o)) := by
  refine (congrArg₂ (fun a b : EReal => a + b) Ideal.ofBits_zero_f32 ?_).trans (zero_add _)
  rw [Finset.sum_filter_eq_sum_of_fiber _ (fun p : Fin 32 => ix2 (flatRow i p) o) ?_ ?_]
  · exact Finset.sum_congr rfl fun p _ => layerRows_apply x w b i p o
  · intro p q h
    have e := congrArg Fin.val ((ix2_inj _ _ _ _).1 h).1
    exact Fin.ext (Nat.add_left_cancel e)
  · intro j
    rw [lands, rowWords_apply (j 0)]
    have hi := i.isLt
    constructor
    · rintro ⟨h0, h1⟩
      refine ⟨⟨(j 0).val % 32, Nat.mod_lt _ (by decide)⟩, ?_⟩
      rw [eq_ix2 j]
      refine (ix2_inj _ _ _ _).2 ⟨Fin.ext ?_, Fin.ext h1.symm⟩
      show 32 * i.val + (j 0).val % 32 = (j 0).val
      omega
    · rintro ⟨p, rfl⟩
      have hp := p.isLt
      refine ⟨?_, rfl⟩
      show (((32 * i.val + p.val) / 32 : ℕ) : ℤ) = (i.val : ℤ)
      omega

end Cert.Proof

end
-- ==== Proof.Finite.lean ====
/-
  The precondition read: every entry of the input and of the weights is a real.
-/
module

public import proofs.«01_k».proof.Defs
public import proofs.«01_k».proof.Proof.Main
public import proofs.«01_k».proof.Proof.Gen.Pre_finite
public import Idealize.ShloMosaic.Lib.ReduceAll
public import Idealize.ShloMosaic.Lib.IdealHost

@[expose] public section

noncomputable section

namespace Cert.Proof

open Idealize.ShloMosaic

/-- The word the magnitudes are compared with is plus infinity. -/
theorem word_top : Ideal.ofBits .f32 0x7F800000#32 = ⊤ := by
  simp [Ideal.ofBits, Ideal.ieee]

/-- An extended real whose magnitude is below plus infinity is a real. -/
theorem real_of_magnitude (x : EReal) (h : Ideal.cmp .olt (max x (-x)) (Ideal.ofBits .f32 0x7F800000#32) = 1#1) : ∃ r : ℝ, x = r := by
  rw [word_top] at h
  have hlt : max x (-x) < ⊤ := by
    by_contra hn
    simp [Ideal.cmp, hn] at h
  induction x using EReal.rec with
  | coe r => exact ⟨r, rfl⟩
  | bot => simp at hlt
  | top => simp at hlt

/-- The test of one array, passed, makes each entry a real. -/
theorem real_of_test {s : Shape} {axes : List (Fin s.rank)} (hb : Cert.Pre_finite.S_.BroadcastsInDim s ![]) (hr : s.ReducesTo axes Cert.Pre_finite.S_)
    (hu : 0 < Cert.Pre_finite.S_.numel) (x : FVec Ideal s .f32)
    (h : Host.reduce IntOp.andi (cmpf .olt (Host.absf x) (broadcastInDim s ![] hb (constant Cert.Pre_finite.S_ .f32 0x7F800000#32)))
      (constantI Cert.Pre_finite.S_ 1 1#1) hr hu ValueIdx.ix0 = 1#1) (i : s.Idx) : ∃ r : ℝ, (x i : EReal) = r := by
  haveI : Subsingleton Cert.Pre_finite.S_.Idx := ⟨fun a b => funext fun k => k.elim0⟩
  exact real_of_magnitude (x i) (Host.reduce_andi_all _ _ hr hu ValueIdx.ix0 h i)

/-- The precondition holds of a memory only if every entry of the input and of the weights is a real. -/
theorem reals_of_finite (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, ∃ r : ℝ, (argX m c i : EReal) = r) ∧ ∀ i, ∃ r : ℝ, (argW m c i : EReal) = r := by
  obtain ⟨hx, hw⟩ := IntOp.andi_eq_one.1 (congrFun (h c) ValueIdx.ix0)
  exact ⟨real_of_test _ _ _ (argX m c) hx, real_of_test _ _ _ (argW m c) hw⟩

end Cert.Proof

end
-- ==== Proof.Algebraic.lean ====
/-
  The kernel and the reference end with the same result, over the extended reals.
-/
module

public import proofs.«01_k».proof.Proof.Algebra
public import proofs.«01_k».proof.Proof.KernelValue
public import proofs.«01_k».proof.Proof.ReferenceValue
public import proofs.«01_k».proof.Proof.Finite

@[expose] public section

noncomputable section

namespace Cert.Proof

open Idealize.ShloMosaic Idealize.SL.Sem

/-- Of an input and weights that are reals, the kernel's result is the reference's. -/
theorem result_eq (m : (ℓ : Loc Cert.KernelIdeal.nD Cert.KernelIdeal.τ Cert.KernelIdeal.sig) → Buf (Elt Ideal) ℓ)
    (h : Cert.Pre_KernelIdeal_finite m) (c : Dev Cert.KernelIdeal.nD) :
    aggregated (argX m c) (argW m c) (argB m c) = result (F := Ideal) m c := by
  obtain ⟨hx, hw⟩ := reals_of_finite m h c
  funext j
  rw [eq_ix2 (n0 := 4096) (n1 := 128) j]
  refine (aggregated_apply _ _ _ (j 0) (j 1)).trans (Eq.trans ?_ (result_apply m c (j 0) (j 1)).symm)
  exact (layer_of_sum (n := 32) (fun p d => argX m c (ix3 (j 0) p d)) (fun d => argW m c (ix2 (j 1) d)) (argB m c (ix1 (j 1)))
    (fun p d => hx _) fun d => hw _).symm

/-- The kernel and the reference, from memories that agree on the arguments, both run, end with equal results and keep
    their arguments, when the input and the weights are finite. -/
theorem algebraic : Cert.algebraic_KernelIdeal_ReferenceIdeal_pre_finite := fun m ρ m' ρ' hpre hag =>
  ⟨fun c => result (F := Ideal) m c,
    (θ_run Cert.KernelIdeal.defs _ _).mono (fun _ h c => h.1 c) (run_main (F := Ideal) m ρ),
    (θ_run Cert.ReferenceIdeal.defs _ _).mono (fun _ h c => by
      obtain ⟨hx, hw, hb⟩ := hag c
      refine ⟨(h c).1.trans (Eq.trans ?_ (result_eq m hpre c)), (h c).2⟩
      rw [hx, hw, hb]
      rfl) (Cert.ReferenceIdeal.Value.run (F := Ideal) m' ρ')⟩

end Cert.Proof

end
-- ==== Proof.lean ====
/-
  The certificate's claim, put together from the frames (Proof/Frames.lean) and the value claim
  (Proof/Algebraic.lean).
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run

@[expose] public section

noncomputable section

namespace Cert.Proof

/-- The frames, which hold of every memory and so of the finite ones; `preserves`, which has no rewrite to show; and the
    equality of the results. -/
theorem claim : Cert.Claim :=
  ⟨Cert.Kernel.Gen.facts, Cert.KernelIdeal.Gen.facts, Cert.ReferenceIdeal.Gen.facts, Cert.Pre_finite.Gen.facts,
    frame_kernel, frame_kernelIdeal, fun m ρ _ => frame_kernelIdeal m ρ trivial, frame_referenceIdeal,
    fun m ρ _ => frame_referenceIdeal m ρ trivial, trivial, algebraic⟩

end Cert.Proof

end
